-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x4096 : Shape := ⟨2, ![4096, 4096]⟩
abbrev S4x4096x64 : Shape := ⟨3, ![4, 4096, 64]⟩
abbrev S4 : Shape := ⟨1, ![4]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4x4096x64 : S_.BroadcastsInDim S4x4096x64 (![] : Fin 0 → Fin S4x4096x64.rank)
  reducesTo_S4x4096x64_S_d0_1_2 : S4x4096x64.ReducesTo [0, 1, 2] S_
  bcast_S_S4 : S_.BroadcastsInDim S4 (![] : Fin 0 → Fin S4.rank)
  reducesTo_S4_S_d0 : S4.ReducesTo [0] S_

variable [Facts]

def fn {F : FTy → Type} [FloatOps F] (main_arg0 : FVec F S4096x4096 .f32) (main_arg1 : FVec F S4x4096x64 .f32) (main_arg2 : FVec F S4 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  let main_cst_2 : FVec F S_ .f32 := constant S_ .f32 0x7F800000#32
  let main_v9 : FVec F S4 .f32 := broadcastInDim S4 ![] bcast_S_S4 main_cst_2
  let main_v10 : IVec S4 1 := cmpf .olt main_arg2 main_v9
  let main_c_3 : IVec S_ 1 := constantI S_ 1 1#1
  let main_v11 : IVec S_ 1 := (fun x v => Host.reduce IntOp.andi x v reducesTo_S4_S_d0 h_S_) main_v10 main_c_3
  let main_v12 : IVec S_ 1 := andi main_v8 main_v11
  main_v12
-- ==== Kernel.lean ====
abbrev S4096x4096 : Shape := ⟨2, ![4096, 4096]⟩
abbrev S4x4096x64 : Shape := ⟨3, ![4, 4096, 64]⟩
abbrev S4 : Shape := ⟨1, ![4]⟩
abbrev S4096x64 : Shape := ⟨2, ![4096, 64]⟩
abbrev S256x64 : Shape := ⟨2, ![256, 64]⟩
abbrev S10x256x4096 : Shape := ⟨3, ![10, 256, 4096]⟩
abbrev S10 : Shape := ⟨1, ![10]⟩
abbrev S1 : Shape := ⟨1, ![1]⟩
abbrev S_ : Shape := ⟨0, ![]⟩
abbrev S1x256x4096 : Shape := ⟨3, ![1, 256, 4096]⟩
abbrev S256x4096 : Shape := ⟨2, ![256, 4096]⟩
abbrev S1x4096x64 : Shape := ⟨3, ![1, 4096, 64]⟩

abbrev nBuf : Space → Nat
  | .hbm => 4
  | .vmem => 5
  | .smem => 1
  | _ => 0

abbrev bufTy : (tb : Table) → Fin (tcTables nBuf tb) → BufTy
  | .hbm, ⟨0, _⟩ => ⟨S4096x4096, .f32⟩
  | .hbm, ⟨1, _⟩ => ⟨S4x4096x64, .f32⟩
  | .hbm, ⟨2, _⟩ => ⟨S4, .f32⟩
  | .hbm, ⟨3, _⟩ => ⟨S4096x64, .f32⟩
  | .local _ .vmem, ⟨0, _⟩ => ⟨S4x4096x64, .f32⟩
  | .local _ .vmem, ⟨1, _⟩ => ⟨S256x64, .f32⟩
  | .local _ .vmem, ⟨2, _⟩ => ⟨S256x64, .f32⟩
  | .local _ .vmem, ⟨3, _⟩ => ⟨S10x256x4096, .f32⟩
  | .local _ .vmem, ⟨4, _⟩ => ⟨S4096x64, .bf16⟩
  | .local _ .smem, ⟨0, _⟩ => ⟨S4, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_scratch0 : Ref sig .tc := ⟨.vmem, 3, rfl⟩
abbrev cc0_scratch1 : Ref sig .tc := ⟨.vmem, 4, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![16], ![false]⟩

def k0_off1 (i : grid0.Coords) : Fin 1 → Nat :=
  let arg0 : BitVec 32 := BitVec.ofNat 32 (i 0).val
  let c10_i32 : BitVec 32 := 10#32
  let c0_i32_1 : BitVec 32 := 0#32
  let v3 : BitVec 1 := Scalar.cmpi .eq c10_i32 c0_i32_1
  let c1_i32 : BitVec 32 := 1#32
  let v4 : BitVec 32 := Scalar.select v3 c1_i32 c10_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![v12.toNat]
def k0_off2 (i : grid0.Coords) : Fin 3 → Nat :=
  let arg0 : BitVec 32 := BitVec.ofNat 32 (i 0).val
  let c10_i32 : BitVec 32 := 10#32
  let c0_i32_1 : BitVec 32 := 0#32
  let v3 : BitVec 1 := Scalar.cmpi .eq c10_i32 c0_i32_1
  let c1_i32 : BitVec 32 := 1#32
  let v4 : BitVec 32 := Scalar.select v3 c1_i32 c10_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  ![v12.toNat, 0, 0]
def k0_off3 (i : grid0.Coords) : Fin 2 → Nat :=
  let arg0 : BitVec 32 := BitVec.ofNat 32 (i 0).val
  let c256_i32 : BitVec 32 := 256#32
  let v13 : BitVec 32 := Scalar.muli arg0 c256_i32
  let c0_i32_7 : BitVec 32 := 0#32
  ![v13.toNat, 0]
def k0_cond2 (i : grid0.Coords) : BitVec 1 :=
  let arg0 : BitVec 32 := BitVec.ofNat 32 (i 0).val
  let c8_i32 : BitVec 32 := 8#32
  let v19 : BitVec 32 := Scalar.addi arg0 c8_i32
  let c16_i32 : BitVec 32 := 16#32
  let v20 : BitVec 1 := Scalar.cmpi .slt v19 c16_i32
  let c2_i32 : BitVec 32 := 2#32
  let c0_i32_8 : BitVec 32 := 0#32
  let v21 : BitVec 1 := Scalar.cmpi .eq c2_i32 c0_i32_8
  let c1_i32_9 : BitVec 32 := 1#32
  let v22 : BitVec 32 := Scalar.select v21 c1_i32_9 c2_i32
  let v23 : BitVec 32 := Scalar.remsi v19 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let c0_i32_13 : BitVec 32 := 0#32
  let v31 : BitVec 1 := Scalar.cmpi .eq v30 c0_i32_13
  let v32 : BitVec 1 := Scalar.andi v20 v31
  let v33 : BitVec 32 := Scalar.extui v32
  let c0_i32_14 : BitVec 32 := 0#32
  let v34 : BitVec 1 := Scalar.cmpi .ne v33 c0_i32_14
  v34

def k0_off4 (i : grid0.Coords) : Fin 1 → Nat :=
  let arg0 : BitVec 32 := BitVec.ofNat 32 (i 0).val
  let c8_i32 : BitVec 32 := 8#32
  let v19 : BitVec 32 := Scalar.addi arg0 c8_i32
  let c10_i32_45 : BitVec 32 := 10#32
  let c0_i32_46 : BitVec 32 := 0#32
  let v85 : BitVec 1 := Scalar.cmpi .eq c10_i32_45 c0_i32_46
  let c1_i32_47 : BitVec 32 := 1#32
  let v86 : BitVec 32 := Scalar.select v85 c1_i32_47 c10_i32_45
  let v87 : BitVec 32 := Scalar.remsi v19 v86
  let c0_i32_49 : BitVec 32 := 0#32
  let v89 : BitVec 1 := Scalar.cmpi .slt v87 c0_i32_49
  let c0_i32_50 : BitVec 32 := 0#32
  let v90 : BitVec 1 := Scalar.cmpi .slt v86 c0_i32_50
  let v91 : BitVec 1 := Scalar.xori v89 v90
  let c0_i32_48 : BitVec 32 := 0#32
  let v88 : BitVec 1 := Scalar.cmpi .ne v87 c0_i32_48
  let v92 : BitVec 1 := Scalar.andi v91 v88
  let v93 : BitVec 32 := Scalar.addi v87 v86
  let v94 : BitVec 32 := Scalar.select v92 v93 v87
  ![v94.toNat]
def k0_off5 (i : grid0.Coords) : Fin 3 → Nat :=
  let arg0 : BitVec 32 := BitVec.ofNat 32 (i 0).val
  let c8_i32 : BitVec 32 := 8#32
  let v19 : BitVec 32 := Scalar.addi arg0 c8_i32
  let c10_i32_45 : BitVec 32 := 10#32
  let c0_i32_46 : BitVec 32 := 0#32
  let v85 : BitVec 1 := Scalar.cmpi .eq c10_i32_45 c0_i32_46
  let c1_i32_47 : BitVec 32 := 1#32
  let v86 : BitVec 32 := Scalar.select v85 c1_i32_47 c10_i32_45
  let v87 : BitVec 32 := Scalar.remsi v19 v86
  let c0_i32_49 : BitVec 32 := 0#32
  let v89 : BitVec 1 := Scalar.cmpi .slt v87 c0_i32_49
  let c0_i32_50 : BitVec 32 := 0#32
  let v90 : BitVec 1 := Scalar.cmpi .slt v86 c0_i32_50
  let v91 : BitVec 1 := Scalar.xori v89 v90
  let c0_i32_48 : BitVec 32 := 0#32
  let v88 : BitVec 1 := Scalar.cmpi .ne v87 c0_i32_48
  let v92 : BitVec 1 := Scalar.andi v91 v88
  let v93 : BitVec 32 := Scalar.addi v87 v86
  let v94 : BitVec 32 := Scalar.select v92 v93 v87
  let c0_i32_52 : BitVec 32 := 0#32
  let c0_i32_53 : BitVec 32 := 0#32
  ![v94.toNat, 0, 0]
def k0_off6 (i : grid0.Coords) : Fin 2 → Nat :=
  let arg0 : BitVec 32 := BitVec.ofNat 32 (i 0).val
  let c8_i32 : BitVec 32 := 8#32
  let v19 : BitVec 32 := Scalar.addi arg0 c8_i32
  let c256_i32_51 : BitVec 32 := 256#32
  let v95 : BitVec 32 := Scalar.muli v19 c256_i32_51
  let c0_i32_54 : BitVec 32 := 0#32
  ![v95.toNat, 0]
def k0_cond3 (i : grid0.Coords) : BitVec 1 :=
  let arg0 : BitVec 32 := BitVec.ofNat 32 (i 0).val
  let c8_i32 : BitVec 32 := 8#32
  let v19 : BitVec 32 := Scalar.addi arg0 c8_i32
  let c16_i32_15 : BitVec 32 := 16#32
  let v35 : BitVec 1 := Scalar.cmpi .slt v19 c16_i32_15
  let c2_i32_16 : BitVec 32 := 2#32
  let c0_i32_17 : BitVec 32 := 0#32
  let v36 : BitVec 1 := Scalar.cmpi .eq c2_i32_16 c0_i32_17
  let c1_i32_18 : BitVec 32 := 1#32
  let v37 : BitVec 32 := Scalar.select v36 c1_i32_18 c2_i32_16
  let v38 : BitVec 32 := Scalar.remsi v19 v37
  let c0_i32_20 : BitVec 32 := 0#32
  let v40 : BitVec 1 := Scalar.cmpi .slt v38 c0_i32_20
  let c0_i32_21 : BitVec 32 := 0#32
  let v41 : BitVec 1 := Scalar.cmpi .slt v37 c0_i32_21
  let v42 : BitVec 1 := Scalar.xori v40 v41
  let c0_i32_19 : BitVec 32 := 0#32
  let v39 : BitVec 1 := Scalar.cmpi .ne v38 c0_i32_19
  let v43 : BitVec 1 := Scalar.andi v42 v39
  let v44 : BitVec 32 := Scalar.addi v38 v37
  let v45 : BitVec 32 := Scalar.select v43 v44 v38
  let c1_i32_22 : BitVec 32 := 1#32
  let v46 : BitVec 1 := Scalar.cmpi .eq v45 c1_i32_22
  let v47 : BitVec 1 := Scalar.andi v35 v46
  let v48 : BitVec 32 := Scalar.extui v47
  let c0_i32_23 : BitVec 32 := 0#32
  let v49 : BitVec 1 := Scalar.cmpi .ne v48 c0_i32_23
  v49

def k0_off7 (i : grid0.Coords) : Fin 1 → Nat :=
  let arg0 : BitVec 32 := BitVec.ofNat 32 (i 0).val
  let c8_i32 : BitVec 32 := 8#32
  let v19 : BitVec 32 := Scalar.addi arg0 c8_i32
  let c10_i32_45 : BitVec 32 := 10#32
  let c0_i32_46 : BitVec 32 := 0#32
  let v85 : BitVec 1 := Scalar.cmpi .eq c10_i32_45 c0_i32_46
  let c1_i32_47 : BitVec 32 := 1#32
  let v86 : BitVec 32 := Scalar.select v85 c1_i32_47 c10_i32_45
  let v87 : BitVec 32 := Scalar.remsi v19 v86
  let c0_i32_49 : BitVec 32 := 0#32
  let v89 : BitVec 1 := Scalar.cmpi .slt v87 c0_i32_49
  let c0_i32_50 : BitVec 32 := 0#32
  let v90 : BitVec 1 := Scalar.cmpi .slt v86 c0_i32_50
  let v91 : BitVec 1 := Scalar.xori v89 v90
  let c0_i32_48 : BitVec 32 := 0#32
  let v88 : BitVec 1 := Scalar.cmpi .ne v87 c0_i32_48
  let v92 : BitVec 1 := Scalar.andi v91 v88
  let v93 : BitVec 32 := Scalar.addi v87 v86
  let v94 : BitVec 32 := Scalar.select v92 v93 v87
  ![v94.toNat]
def k0_off8 (i : grid0.Coords) : Fin 3 → Nat :=
  let arg0 : BitVec 32 := BitVec.ofNat 32 (i 0).val
  let c8_i32 : BitVec 32 := 8#32
  let v19 : BitVec 32 := Scalar.addi arg0 c8_i32
  let c10_i32_45 : BitVec 32 := 10#32
  let c0_i32_46 : BitVec 32 := 0#32
  let v85 : BitVec 1 := Scalar.cmpi .eq c10_i32_45 c0_i32_46
  let c1_i32_47 : BitVec 32 := 1#32
  let v86 : BitVec 32 := Scalar.select v85 c1_i32_47 c10_i32_45
  let v87 : BitVec 32 := Scalar.remsi v19 v86
  let c0_i32_49 : BitVec 32 := 0#32
  let v89 : BitVec 1 := Scalar.cmpi .slt v87 c0_i32_49
  let c0_i32_50 : BitVec 32 := 0#32
  let v90 : BitVec 1 := Scalar.cmpi .slt v86 c0_i32_50
  let v91 : BitVec 1 := Scalar.xori v89 v90
  let c0_i32_48 : BitVec 32 := 0#32
  let v88 : BitVec 1 := Scalar.cmpi .ne v87 c0_i32_48
  let v92 : BitVec 1 := Scalar.andi v91 v88
  let v93 : BitVec 32 := Scalar.addi v87 v86
  let v94 : BitVec 32 := Scalar.select v92 v93 v87
  let c0_i32_52 : BitVec 32 := 0#32
  let c0_i32_53 : BitVec 32 := 0#32
  ![v94.toNat, 0, 0]
def k0_off9 (i : grid0.Coords) : Fin 2 → Nat :=
  let arg0 : BitVec 32 := BitVec.ofNat 32 (i 0).val
  let c8_i32 : BitVec 32 := 8#32
  let v19 : BitVec 32 := Scalar.addi arg0 c8_i32
  let c256_i32_51 : BitVec 32 := 256#32
  let v95 : BitVec 32 := Scalar.muli v19 c256_i32_51
  let c0_i32_54 : BitVec 32 := 0#32
  ![v95.toNat, 0]
def k0_off10 (i : grid0.Coords) : Fin 3 → Nat :=
  let arg0 : BitVec 32 := BitVec.ofNat 32 (i 0).val
  let c10_i32_32 : BitVec 32 := 10#32
  let c0_i32_33 : BitVec 32 := 0#32
  let v66 : BitVec 1 := Scalar.cmpi .eq c10_i32_32 c0_i32_33
  let c1_i32_34 : BitVec 32 := 1#32
  let v67 : BitVec 32 := Scalar.select v66 c1_i32_34 c10_i32_32
  let v68 : BitVec 32 := Scalar.remsi arg0 v67
  let c0_i32_36 : BitVec 32 := 0#32
  let v70 : BitVec 1 := Scalar.cmpi .slt v68 c0_i32_36
  let c0_i32_37 : BitVec 32 := 0#32
  let v71 : BitVec 1 := Scalar.cmpi .slt v67 c0_i32_37
  let v72 : BitVec 1 := Scalar.xori v70 v71
  let c0_i32_35 : BitVec 32 := 0#32
  let v69 : BitVec 1 := Scalar.cmpi .ne v68 c0_i32_35
  let v73 : BitVec 1 := Scalar.andi v72 v69
  let v74 : BitVec 32 := Scalar.addi v68 v67
  let v75 : BitVec 32 := Scalar.select v73 v74 v68
  let v76 : Index := Scalar.indexCast v75
  let c0_38 : Index := 0#32
  let c0_39 : Index := 0#32
  ![v76.toNat, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x4096 : Shape := ⟨2, ![4096, 4096]⟩
abbrev S4x4096x64 : Shape := ⟨3, ![4, 4096, 64]⟩
abbrev S4 : Shape := ⟨1, ![4]⟩
abbrev S4x64x4096 : Shape := ⟨3, ![4, 64, 4096]⟩
abbrev S4x1x1 : Shape := ⟨3, ![4, 1, 1]⟩
abbrev S_ : Shape := ⟨0, ![]⟩
abbrev S4096x64 : Shape := ⟨2, ![4096, 64]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x4096x64, .f32⟩
  | .hbm, ⟨2, _⟩ => ⟨S4, .f32⟩
  | .hbm, ⟨3, _⟩ => ⟨S4x64x4096, .f32⟩
  | .hbm, ⟨4, _⟩ => ⟨S4x4096x64, .f32⟩
  | .hbm, ⟨5, _⟩ => ⟨S4x1x1, .f32⟩
  | .hbm, ⟨6, _⟩ => ⟨S_, .f32⟩
  | .hbm, ⟨7, _⟩ => ⟨S4x1x1, .f32⟩
  | .hbm, ⟨8, _⟩ => ⟨S4x1x1, .i1⟩
  | .hbm, ⟨9, _⟩ => ⟨S4x4096x64, .f32⟩
  | .hbm, ⟨10, _⟩ => ⟨S4x4096x64, .f32⟩
  | .hbm, ⟨11, _⟩ => ⟨S4x4096x64, .f32⟩
  | .hbm, ⟨12, _⟩ => ⟨S4x4096x64, .i1⟩
  | .hbm, ⟨13, _⟩ => ⟨S4x4096x64, .f32⟩
  | .hbm, ⟨14, _⟩ => ⟨S_, .f32⟩
  | .hbm, ⟨15, _⟩ => ⟨S4096x64, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Pieces.lean ====
/-
  The mask ring of the kernel: the names of its slots, blocks and semaphore cells, what is held of each between grid points,
  and the equations that turn the body's slices into those names.
-/
module

public import proofs.«01_k».proof.Proof.Gen.KernelIdeal.Frame
public import Idealize.ShloMosaic.Lib.Ring.AtN

@[expose] public section

set_option maxRecDepth 16384

noncomputable section

namespace Cert.KernelIdeal.Mask

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The three branches, by the point -/

/-- The first branch (the prologue) is taken at point 0. -/
abbrev first (i : grid0.Coords) : Prop := (Scalar.cmpi .ne (Scalar.extui (Scalar.cmpi .eq (BitVec.ofNat 32 (i 0).val) 0#32)) 0#32) = 1#1
/-- The prologue's branch, read at a point. -/
theorem first_iff : ∀ t : Fin cfg0.N, first (grid0.coords t) ↔ t.val = 0 :=
  (by decide +kernel : ∀ t : Fin grid0.N, first (grid0.coords t) ↔ t.val = 0)
/-- The second branch starts a block at an even point below 8. -/
theorem even_iff : ∀ t : Fin cfg0.N, k0_cond2 (grid0.coords t) = 1#1 ↔ t.val + 8 < 16 ∧ t.val % 2 = 0 :=
  (by decide +kernel : ∀ t : Fin grid0.N, k0_cond2 (grid0.coords t) = 1#1 ↔ t.val + 8 < 16 ∧ t.val % 2 = 0)
/-- The third branch starts a block at an odd point below 8. -/
theorem odd_iff : ∀ t : Fin cfg0.N, k0_cond3 (grid0.coords t) = 1#1 ↔ t.val + 8 < 16 ∧ t.val % 2 = 1 :=
  (by decide +kernel : ∀ t : Fin grid0.N, k0_cond3 (grid0.coords t) = 1#1 ↔ t.val + 8 < 16 ∧ t.val % 2 = 1)

/-! ## Slots, blocks, cells -/

/-- The mask, left in HBM. -/
abbrev maskM : Memref sig .tc .hbm S4096x4096 .f32 := Memref.whole main_arg0
/-- The ten-slot buffer the mask is streamed through. -/
abbrev bufM : Memref sig .tc .vmem S10x256x4096 .f32 := Memref.whole cc0_scratch0
/-- The combined operator, kept from the first point on. -/
abbrev combM : Memref sig .tc .vmem S4096x64 .bf16 := Memref.whole cc0_scratch1

/-- A slot lies in the buffer. -/
theorem slot_inb (s : Fin 10) : ∀ a, (![s.val, 0, 0] : Fin 3 → Nat) a + S1x256x4096.size a ≤ S10x256x4096.size a := by
  have := s.isLt; intro a; fin_cases a <;> simp <;> omega
/-- A block lies in the mask. -/
theorem blk_inb (b : Fin 16) : ∀ a, (![256 * b.val, 0] : Fin 2 → Nat) a + S256x4096.size a ≤ S4096x4096.size a := by
  have := b.isLt; intro a; fin_cases a <;> simp <;> omega
/-- A cell lies in the semaphore array. -/
theorem cell_inb (s : Fin 10) : ∀ a, (![s.val] : Fin 1 → Nat) a + S1.size a ≤ S10.size a := by
  have := s.isLt; intro a; fin_cases a <;> simp <;> omega

/-- Slot `s` of the buffer. -/
def slotM (s : Fin 10) : Memref sig .tc .vmem S256x4096 .f32 :=
  (bufM.slice (Rect.unit (s := S10x256x4096) (![s.val, 0, 0]) S1x256x4096.size (slot_inb s)) (fun _ => rfl)).squeeze S256x4096 squeezes_S1x256x4096_S256x4096
/-- Block `b` of the mask: its rows `256 b` to `256 b + 255`. -/
def blkM (b : Fin 16) : Memref sig .tc .hbm S256x4096 .f32 :=
  maskM.slice (Rect.unit (s := S4096x4096) (![256 * b.val, 0]) S256x4096.size (blk_inb b)) (fun _ => rfl)
/-- Cell `s` of the semaphore array. -/
def cellM (s : Fin 10) : DmaSems sig S_ :=
  (cc0_scratch2.slice (Rect.unit (s := S10) (![s.val]) S1.size (cell_inb s))).squeeze S_ squeezes_S1_S_
/-- Cell `s` as a semaphore of the machine. -/
abbrev cellL (s : Fin 10) : SemLoc sig := SemLoc.dma (cellM s).sem

/-- A slice of the buffer at slot `s`'s offsets is slot `s`; -/
theorem slot_eq {off : Fin 3 → Nat} {s : Fin 10} (e : off = ![s.val, 0, 0]) (hh hs) :
    (bufM.slice (Rect.unit (s := S10x256x4096) off S1x256x4096.size hh) hs).squeeze S256x4096 squeezes_S1x256x4096_S256x4096 = slotM s :=
  congrArg (fun M : Memref sig .tc .vmem S1x256x4096 .f32 => M.squeeze S256x4096 squeezes_S1x256x4096_S256x4096) (Memref.slice_unit_congr _ e _ _ _ _)
/-- a slice of the mask at block `b`'s offsets is block `b`; -/
theorem blk_eq {off : Fin 2 → Nat} {b : Fin 16} (e : off = ![256 * b.val, 0]) (hh hs) :
    maskM.slice (Rect.unit (s := S4096x4096) off S256x4096.size hh) hs = blkM b :=
  Memref.slice_unit_congr _ e _ (blk_inb b) _ (fun _ => rfl)
/-- a slice of the semaphore array at cell `s`'s offset is cell `s`. -/
theorem cell_eq {off : Fin 1 → Nat} {s : Fin 10} (e : off = ![s.val]) (hh) :
    (cc0_scratch2.slice (Rect.unit (s := S10) off S1.size hh)).squeeze S_ squeezes_S1_S_ = cellM s :=
  congrArg (fun A : DmaSems sig S1 => A.squeeze S_ squeezes_S1_S_) (SemArray.slice_unit_congr _ e _ _)

/-! ## The body's offsets at a point -/

/-- The cell and the slot waited at point `t` are number `t mod 10`. -/
theorem wait_offs : ∀ t : Fin grid0.N, k0_off1 (grid0.coords t) = ![(Ring.sl 10 t.val).val] ∧ k0_off2 (grid0.coords t) = ![(Ring.sl 10 t.val).val, 0, 0]
    ∧ k0_off3 (grid0.coords t) = ![256 * (Ring.bk 16 t.val).val, 0] ∧ k0_off10 (grid0.coords t) = ![(Ring.sl 10 t.val).val, 0, 0] := by decide +kernel
/-- What the even branch names at point `t`: the cell, slot and block of step `t + 8`. -/
theorem even_offs : ∀ t : Fin grid0.N, t.val + 8 < 16 → k0_off4 (grid0.coords t) = ![(Ring.sl 10 (t.val + 8)).val]
    ∧ k0_off5 (grid0.coords t) = ![(Ring.sl 10 (t.val + 8)).val, 0, 0] ∧ k0_off6 (grid0.coords t) = ![256 * (Ring.bk 16 (t.val + 8)).val, 0] := by decide +kernel
/-- What the odd branch names at point `t`: the same. -/
theorem odd_offs : ∀ t : Fin grid0.N, t.val + 8 < 16 → k0_off7 (grid0.coords t) = ![(Ring.sl 10 (t.val + 8)).val]
    ∧ k0_off8 (grid0.coords t) = ![(Ring.sl 10 (t.val + 8)).val, 0, 0] ∧ k0_off9 (grid0.coords t) = ![256 * (Ring.bk 16 (t.val + 8)).val, 0] := by decide +kernel

/-- The load of the waited slot reads at slot `t mod 10`. -/
instance (priority := high) closedLoad (t : Fin grid0.N) : ClosedOff (k0_off10 (grid0.coords t)) := ⟨![(Ring.sl 10 t.val).val, 0, 0], (wait_offs t).2.2.2⟩

@[sl_canon] theorem cellW (t : Fin grid0.N) (hh) :
    (cc0_scratch2.slice (Rect.unit (s := S10) (k0_off1 (grid0.coords t)) S1.size hh)).squeeze S_ squeezes_S1_S_ = cellM (Ring.sl 10 t.val) := cell_eq (wait_offs t).1 _
@[sl_canon] theorem slotW (t : Fin grid0.N) (hh hs) :
    (bufM.slice (Rect.unit (s := S10x256x4096) (k0_off2 (grid0.coords t)) S1x256x4096.size hh) hs).squeeze S256x4096 squeezes_S1x256x4096_S256x4096 = slotM (Ring.sl 10 t.val) := slot_eq (wait_offs t).2.1 _ _
@[sl_canon] theorem blkW (t : Fin grid0.N) (hh hs) :
    maskM.slice (Rect.unit (s := S4096x4096) (k0_off3 (grid0.coords t)) S256x4096.size hh) hs = blkM (Ring.bk 16 t.val) := blk_eq (wait_offs t).2.2.1 _ _
@[sl_canon] theorem cellE (t : Fin grid0.N) (h : t.val + 8 < 16) (hh) :
    (cc0_scratch2.slice (Rect.unit (s := S10) (k0_off4 (grid0.coords t)) S1.size hh)).squeeze S_ squeezes_S1_S_ = cellM (Ring.sl 10 (t.val + 8)) := cell_eq (even_offs t h).1 _
@[sl_canon] theorem slotE (t : Fin grid0.N) (h : t.val + 8 < 16) (hh hs) :
    (bufM.slice (Rect.unit (s := S10x256x4096) (k0_off5 (grid0.coords t)) S1x256x4096.size hh) hs).squeeze S256x4096 squeezes_S1x256x4096_S256x4096 = slotM (Ring.sl 10 (t.val + 8)) := slot_eq (even_offs t h).2.1 _ _
@[sl_canon] theorem blkE (t : Fin grid0.N) (h : t.val + 8 < 16) (hh hs) :
    maskM.slice (Rect.unit (s := S4096x4096) (k0_off6 (grid0.coords t)) S256x4096.size hh) hs = blkM (Ring.bk 16 (t.val + 8)) := blk_eq (even_offs t h).2.2 _ _
@[sl_canon] theorem cellO (t : Fin grid0.N) (h : t.val + 8 < 16) (hh) :
    (cc0_scratch2.slice (Rect.unit (s := S10) (k0_off7 (grid0.coords t)) S1.size hh)).squeeze S_ squeezes_S1_S_ = cellM (Ring.sl 10 (t.val + 8)) := cell_eq (odd_offs t h).1 _
@[sl_canon] theorem slotO (t : Fin grid0.N) (h : t.val + 8 < 16) (hh hs) :
    (bufM.slice (Rect.unit (s := S10x256x4096) (k0_off8 (grid0.coords t)) S1x256x4096.size hh) hs).squeeze S256x4096 squeezes_S1x256x4096_S256x4096 = slotM (Ring.sl 10 (t.val + 8)) := slot_eq (odd_offs t h).2.1 _ _
@[sl_canon] theorem blkO (t : Fin grid0.N) (h : t.val + 8 < 16) (hh hs) :
    maskM.slice (Rect.unit (s := S4096x4096) (k0_off9 (grid0.coords t)) S256x4096.size hh) hs = blkM (Ring.bk 16 (t.val + 8)) := blk_eq (odd_offs t h).2.2 _ _

/-! ## What is held of a slot, a cell, a block -/

section Pieces
variable (c : Dev nD) (W : Buf (Elt F) (maskM.view.loc (c : Thread nD τ)))

/-- Slot `s` held at contents `f`. -/
abbrev slotP (s : Fin 10) (f : Buf (Elt F) ((slotM s).view.loc (c : Thread nD τ))) : sProp 𝕄 :=
  (slotM s).view.loc (c : Thread nD τ) ↦[(slotM s).view.set]{fullShare} f
/-- Cell `s` at zero. -/
abbrev cellP (s : Fin 10) : sProp 𝕄 := semVal ((c : Thread nD τ), cellL s) 0
/-- Block `b` of the mask held at the mask's contents. -/
abbrev homeP (b : Fin 16) : sProp 𝕄 := (blkM b).view.loc (c : Thread nD τ) ↦[(blkM b).view.set]{fullShare} W
/-- What block `b`'s transfer leaves in slot `s` over the contents `f`. -/
abbrev landed (s : Fin 10) (b : Fin 16) (f : Buf (Elt F) ((slotM s).view.loc (c : Thread nD τ))) : Buf (Elt F) ((slotM s).view.loc (c : Thread nD τ)) :=
  (slotM s).view.writes (Elt F) f [⟨Rect.whole S256x4096, ReadAs.same.apply ((blkM b).view.read (Elt F) W)⟩]
/-- Block `b` in flight into slot `s`: it will deliver the slot landed and the block back. -/
abbrev flightP (s : Fin 10) (b : Fin 16) (f : Buf (Elt F) ((slotM s).view.loc (c : Thread nD τ))) : sProp 𝕄 :=
  Transfers.Flight countersEmb (c : Thread nD τ) (cellL s) default ((slotM s).view.amount (cellL s)) iprop(slotP c s (landed c W s b f) ∗ homeP c W b)

/-- A slot not in flight, and one in flight. -/
abbrev freeP (s : Fin 10) : sProp 𝕄 := Ring.free (cellP (F := F) c) (slotP c) s
abbrev goingP (s : Fin 10) (b : Fin 16) : sProp 𝕄 := Ring.inflight (flightP c W) s b

/-- The ring before point `p`: every slot free before the first; then blocks `p` to `p + 7` in flight, while they exist. -/
def ring (p : ℕ) : sProp 𝕄 :=
  if p = 0 then Ring.At₀ (cellP c) (slotP c) (homeP c W) else Ring.At 8 (cellP c) (slotP c) (homeP c W) (flightP c W) p

end Pieces

end Cert.KernelIdeal.Mask

end
-- ==== Proof.Steps.lean ====
/-
  The kernel body at each kind of grid point: what it takes of the mask ring and hands back, and the contents it stores.
-/
module

public import proofs.«01_k».proof.Proof.Pieces
public import proofs.«01_k».proof.Proof.Gen.KernelIdeal.Skeleton
public import Idealize.ShloMosaic.Lib.Pipeline.FrameBody
public import Idealize.ShloMosaic.Lib.Pipeline.Value
public import Idealize.ShloMosaic.Lib.VecWindow
public import Idealize.ShloMosaic.Lib.Tactic

@[expose] public section

set_option maxRecDepth 16384

noncomputable section

namespace Cert.KernelIdeal.Mask

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the body stores -/

/-- An operator of the list lies in the list. -/
theorem op_inb (k : Fin 4) : ∀ a, (![k.val, 0, 0] : Fin 3 → Nat) a + S1x4096x64.size a ≤ S4x4096x64.size a := by
  have := k.isLt; intro a; fin_cases a <;> simp <;> omega
/-- Operator `k` of the list, as the body loads it. -/
abbrev opAt (x0 : Vec F S4x4096x64 .f32) (k : Fin 4) : Vec F S1x4096x64 .f32 := View.ld x0 (Rect.unit (s := S4x4096x64) ![k.val, 0, 0] S1x4096x64.size (op_inb k))
/-- A weight lies in the list of weights. -/
theorem w_inb (k : Fin 4) : ∀ a, (![k.val] : Fin 1 → Nat) a + S1.size a ≤ S4.size a := by
  have := k.isLt; intro a; fin_cases a; simp; omega
/-- Weight `k`, as the body loads it. -/
abbrev wAt (x1 : Vec F S4 .f32) (k : Fin 4) : Elt F .f32 := View.ld x1 (Rect.unit (s := S4) ![k.val] S1.size (w_inb k)) (Shape.Idx.first (s := S1) (by decide))
/-- The combined operator the first point builds. -/
def comb (x0 : Vec F S4x4096x64 .f32) (x1 : Vec F S4 .f32) : Vec F S4096x64 .bf16 :=
  k0_pay4 (k0_pay2 (wAt x1 0) (opAt x0 0)) (k0_pay3 (wAt x1 1)) (opAt x0 1) (wAt x1 2) (opAt x0 2) (wAt x1 3) (opAt x0 3)
/-- Block `b` of the mask, as the body loads it out of the ring. -/
def blkV (c : Dev nD) (W : Buf (Elt F) (maskM.view.loc (c : Thread nD τ))) (b : Fin 16) : Vec F S1x256x4096 .f32 :=
  shapeCast S1x256x4096 ((blkM b).view.read (Elt F) W) shapeCasts_S1x256x4096_S256x4096.symm
/-- The rows of the result stored at the point of block `b`, from the combined operator `h`. -/
def rowsV (c : Dev nD) (W : Buf (Elt F) (maskM.view.loc (c : Thread nD τ))) (x1 : Vec F S4 .f32) (h : Vec F S4096x64 .bf16) (b : Fin 16) : Vec F S256x64 .f32 :=
  k0_pay1 (k0_pay5 (wAt x1 0) (wAt x1 1) (wAt x1 2) (wAt x1 3)) (blkV c W b) h

/-- A load of slot `s` after a transfer landed `X` in it reads `X`, whatever was there. -/
theorem load_landed {off : Fin 3 → Nat} {s : Fin 10} (e : off = ![s.val, 0, 0]) (hh) (f : (slotM s).view.ty.Contents (Elt F)) (X : Vec F S256x4096 .f32) :
    bufM.view.readAt (Elt F) (Rect.unit (s := S10x256x4096) off S1x256x4096.size hh).toLoadRect ((slotM s).view.writes (Elt F) f [⟨Rect.whole S256x4096, X⟩])
      = shapeCast S1x256x4096 X shapeCasts_S1x256x4096_S256x4096.symm := by
  subst e
  have h := View.read_writes_whole (slotM s).view f X
  conv_rhs => rw [← h]
  exact (shapeCast_shapeCast (s := S1x256x4096) (t := S256x4096) _ shapeCasts_S1x256x4096_S256x4096 shapeCasts_S1x256x4096_S256x4096.symm).symm

/-- What a point's store leaves in the output block. -/
theorem stored {c : Dev nD} {arg3 : Memref sig .tc .smem S4 .f32} {arg4 : Memref sig .tc .vmem S256x64 .f32} {arg6 : Memref sig .tc .vmem S4096x64 .bf16}
    {x1 : Vec F S4 .f32} {h : Vec F S4096x64 .bf16} {f1 f2 f3} {off : Fin 3 → Nat} {s : Fin 10} (e : off = ![s.val, 0, 0]) (M : Buf (Elt F) (maskM.view.loc (c : Thread nD τ))) (b : Fin 16)
    (h1 : arg3.view.read (Elt F) f1 = x1) (h3 : arg6.view.read (Elt F) f3 = h) (hh h4 h6) (g : (slotM s).view.ty.Contents (Elt F)) :
    arg4.view.read (Elt F) (arg4.view.writes (Elt F) f2 [⟨Rect.unit (s := S256x64) ![0, 0] S256x64.size h4,
      k0_pay1 (k0_pay5 (arg3.view.readAt (Elt F) (Rect.unit (s := S4) ![0] S1.size inb_S4_S1_0).toLoadRect f1 (Shape.Idx.first (by decide)))
          (arg3.view.readAt (Elt F) (Rect.unit (s := S4) ![1] S1.size inb_S4_S1_1).toLoadRect f1 (Shape.Idx.first (by decide)))
          (arg3.view.readAt (Elt F) (Rect.unit (s := S4) ![2] S1.size inb_S4_S1_2).toLoadRect f1 (Shape.Idx.first (by decide)))
          (arg3.view.readAt (Elt F) (Rect.unit (s := S4) ![3] S1.size inb_S4_S1_3).toLoadRect f1 (Shape.Idx.first (by decide))))
        (bufM.view.readAt (Elt F) (Rect.unit (s := S10x256x4096) off S1x256x4096.size hh).toLoadRect
          ((slotM s).view.writes (Elt F) g [⟨Rect.whole S256x4096, ReadAs.same.apply ((blkM b).view.read (Elt F) M)⟩]))
        (arg6.view.readAt (Elt F) (Rect.unit (s := S4096x64) ![0, 0] S4096x64.size h6).toLoadRect f3)⟩]) = rowsV c M x1 h b := by
  rw [View.read_writes_full, load_landed e, View.readAt_full, h3]
  subst h1
  rfl

/-- What the first point's store leaves in the combined operator's buffer. -/
theorem combined {arg2 : Memref sig .tc .vmem S4x4096x64 .f32} {arg3 : Memref sig .tc .smem S4 .f32} {arg6 : Memref sig .tc .vmem S4096x64 .bf16}
    {x0 : Vec F S4x4096x64 .f32} {x1 : Vec F S4 .f32} {f0 f1 f3} (h0 : arg2.view.read (Elt F) f0 = x0) (h1 : arg3.view.read (Elt F) f1 = x1) (h6) :
    arg6.view.read (Elt F) (arg6.view.writes (Elt F) f3 [⟨Rect.unit (s := S4096x64) ![0, 0] S4096x64.size h6,
      k0_pay4 (k0_pay2 (arg3.view.readAt (Elt F) (Rect.unit (s := S4) ![0] S1.size inb_S4_S1_0).toLoadRect f1 (Shape.Idx.first (by decide)))
          (arg2.view.readAt (Elt F) (Rect.unit (s := S4x4096x64) ![0, 0, 0] S1x4096x64.size inb_S4x4096x64_S1x4096x64_0_0_0).toLoadRect f0))
        (k0_pay3 (arg3.view.readAt (Elt F) (Rect.unit (s := S4) ![1] S1.size inb_S4_S1_1).toLoadRect f1 (Shape.Idx.first (by decide))))
        (arg2.view.readAt (Elt F) (Rect.unit (s := S4x4096x64) ![1, 0, 0] S1x4096x64.size inb_S4x4096x64_S1x4096x64_1_0_0).toLoadRect f0)
        (arg3.view.readAt (Elt F) (Rect.unit (s := S4) ![2] S1.size inb_S4_S1_2).toLoadRect f1 (Shape.Idx.first (by decide)))
        (arg2.view.readAt (Elt F) (Rect.unit (s := S4x4096x64) ![2, 0, 0] S1x4096x64.size inb_S4x4096x64_S1x4096x64_2_0_0).toLoadRect f0)
        (arg3.view.readAt (Elt F) (Rect.unit (s := S4) ![3] S1.size inb_S4_S1_3).toLoadRect f1 (Shape.Idx.first (by decide)))
        (arg2.view.readAt (Elt F) (Rect.unit (s := S4x4096x64) ![3, 0, 0] S1x4096x64.size inb_S4x4096x64_S1x4096x64_3_0_0).toLoadRect f0)⟩]) = comb x0 x1 := by
  rw [View.read_writes_full]
  subst h0; subst h1
  rfl

/-! ## A point that starts no transfer -/

set_option maxHeartbeats 1000000 in
/-- The body at a point past the first that starts no transfer: it waits its block, and hands back the slot free, the block, and
    the point's rows stored; the combined operator is read and kept. -/
theorem run_quiet (c : Dev nD) (t : Fin cfg0.N) (arg2 : Memref sig .tc .vmem S4x4096x64 .f32) (harg2 : arg2.IsWhole) (arg3 : Memref sig .tc .smem S4 .f32) (harg3 : arg3.IsWhole)
    (arg4 : Memref sig .tc .vmem S256x64 .f32) (harg4 : arg4.IsWhole) (arg6 : Memref sig .tc .vmem S4096x64 .bf16) (harg6 : arg6.IsWhole)
    (hc0 : ¬first (grid0.coords t)) (hc1 : ¬k0_cond2 (grid0.coords t) = 1#1) (hc2 : ¬k0_cond3 (grid0.coords t) = 1#1)
    (x0 : Vec F S4x4096x64 .f32) (x1 : Vec F S4 .f32) (h : Vec F S4096x64 .bf16) (M : Buf (Elt F) (maskM.view.loc (c : Thread nD τ)))
    (W : Waits sig Unit) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg6 fullShare h
        ∗ goingP c M (Ring.sl 10 t.val) (Ring.bk 16 t.val) ∗ owes (c : Thread nD τ) 0 W
        ∗ (iprop(owns (c : Thread nD τ) arg2 fullShare x0 ∗ owns (c : Thread nD τ) arg3 fullShare x1 ∗ owns (c : Thread nD τ) arg4 fullShare (rowsV c M x1 h (Ring.bk 16 t.val)) ∗ owns (c : Thread nD τ) arg6 fullShare h
            ∗ freeP (F := F) c (Ring.sl 10 t.val) ∗ homeP c M (Ring.bk 16 t.val) ∗ (∃ W', owes (c : Thread nD τ) 0 W')) -∗ K ⟨⟩))
      ⊢ wp frame (wpE (defs₀ (F := F)) Variants.none c none) Set.univ (cc0__mixed_op_body (grid0.coords t) maskM (Memref.isWhole_whole _) arg2 harg2 arg3 harg3 arg4 harg4 bufM (Memref.isWhole_whole _) arg6 harg6 cc0_scratch2) K := by
  haveI : Fact (¬first (grid0.coords t)) := ⟨hc0⟩
  haveI : Fact (¬k0_cond2 (grid0.coords t) = 1#1) := ⟨hc1⟩
  haveI : Fact (¬k0_cond3 (grid0.coords t) = 1#1) := ⟨hc2⟩
  simp only [cc0__mixed_op_body_eq_skeleton]; unfold cc0__mixed_op_body_skel
  simp only [k0_part3_eq_skeleton, k0_part4_eq_skeleton]
  unfold owns freeP goingP Ring.free Ring.inflight
  iintro ⟨⟨%f0, %hf0, H0⟩, ⟨%f1, %hf1, H1⟩, ⟨%d2, %f2, -, H2⟩, ⟨%f3, %hf3, H3⟩, ⟨%ff, Hf⟩, HW, Hk⟩
  obtain rfl := harg2.eq_unread hf0; obtain rfl := harg3.eq_unread hf1; obtain rfl := harg6.eq_unread hf3
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    exact stored (wait_offs t).2.2.2 M _ hf1 hf3 _ _ _ _
  isplitl [H3]
  · iexists _; isplitr; · ipureintro; exact harg6.read_unread _
    iexact H3
  isplitl [Hf Hf_dst]
  · isplitl [Hf]; · iexact Hf
    iexists _; iexact Hf_dst
  isplitl [Hf_src]; · iexact Hf_src
  iexists _; iexact HW

/-! ## A point that starts one transfer -/

set_option maxHeartbeats 1000000 in
/-- The body at a point past the first that starts a transfer, at either priority: besides what a quiet point does, it takes the free slot
    and the block of step `t + 8` and hands back their transfer in flight. -/
theorem run_issue (c : Dev nD) (t : Fin cfg0.N) (arg2 : Memref sig .tc .vmem S4x4096x64 .f32) (harg2 : arg2.IsWhole) (arg3 : Memref sig .tc .smem S4 .f32) (harg3 : arg3.IsWhole)
    (arg4 : Memref sig .tc .vmem S256x64 .f32) (harg4 : arg4.IsWhole) (arg6 : Memref sig .tc .vmem S4096x64 .bf16) (harg6 : arg6.IsWhole)
    (hc0 : ¬first (grid0.coords t)) (h8 : t.val + 8 < 16)
    (hc : (k0_cond2 (grid0.coords t) = 1#1 ∧ ¬k0_cond3 (grid0.coords t) = 1#1) ∨ (¬k0_cond2 (grid0.coords t) = 1#1 ∧ k0_cond3 (grid0.coords t) = 1#1))
    (x0 : Vec F S4x4096x64 .f32) (x1 : Vec F S4 .f32) (h : Vec F S4096x64 .bf16) (M : Buf (Elt F) (maskM.view.loc (c : Thread nD τ)))
    (W : Waits sig Unit) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg6 fullShare h
        ∗ goingP c M (Ring.sl 10 t.val) (Ring.bk 16 t.val) ∗ freeP (F := F) c (Ring.sl 10 (t.val + 8)) ∗ homeP c M (Ring.bk 16 (t.val + 8)) ∗ owes (c : Thread nD τ) 0 W
        ∗ (iprop(owns (c : Thread nD τ) arg2 fullShare x0 ∗ owns (c : Thread nD τ) arg3 fullShare x1 ∗ owns (c : Thread nD τ) arg4 fullShare (rowsV c M x1 h (Ring.bk 16 t.val)) ∗ owns (c : Thread nD τ) arg6 fullShare h
            ∗ freeP (F := F) c (Ring.sl 10 t.val) ∗ homeP c M (Ring.bk 16 t.val) ∗ goingP c M (Ring.sl 10 (t.val + 8)) (Ring.bk 16 (t.val + 8)) ∗ (∃ W', owes (c : Thread nD τ) 0 W')) -∗ K ⟨⟩))
      ⊢ wp frame (wpE (defs₀ (F := F)) Variants.none c none) Set.univ (cc0__mixed_op_body (grid0.coords t) maskM (Memref.isWhole_whole _) arg2 harg2 arg3 harg3 arg4 harg4 bufM (Memref.isWhole_whole _) arg6 harg6 cc0_scratch2) K := by
  haveI : Fact (¬first (grid0.coords t)) := ⟨hc0⟩
  simp only [cc0__mixed_op_body_eq_skeleton]; unfold cc0__mixed_op_body_skel
  simp only [k0_part3_eq_skeleton, k0_part4_eq_skeleton]
  unfold owns freeP goingP Ring.free Ring.inflight
  iintro ⟨⟨%f0, %hf0, H0⟩, ⟨%f1, %hf1, H1⟩, ⟨%d2, %f2, -, H2⟩, ⟨%f3, %hf3, H3⟩, ⟨%ff, Hf⟩, ⟨Hc8, ⟨%fs8, Hs8⟩⟩, Hh8, HW, Hk⟩
  obtain rfl := harg2.eq_unread hf0; obtain rfl := harg3.eq_unread hf1; obtain rfl := harg6.eq_unread hf3
  rcases hc with ⟨hc1, hc2⟩ | ⟨hc1, hc2⟩
  all_goals
    haveI := Fact.mk hc1
    haveI := Fact.mk hc2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      exact stored (wait_offs t).2.2.2 M _ hf1 hf3 _ _ _ _
    isplitl [H3]
    · iexists _; isplitr; · ipureintro; exact harg6.read_unread _
      iexact H3
    isplitl [Hf Hf_dst]
    · isplitl [Hf]; · iexact Hf
      iexists _; iexact Hf_dst
    isplitl [Hf_src]; · iexact Hf_src
    isplitl [Hc8]
    · iexists _; iexact Hc8
    iexists _; iexact HW

/-! ## The first point -/

/-- A slot free and a block at home, before the transfer of step `p`. -/
abbrev laid (c : Dev nD) (M : Buf (Elt F) (maskM.view.loc (c : Thread nD τ))) (p : ℕ) : sProp 𝕄 := iprop(freeP (F := F) c (Ring.sl 10 p) ∗ homeP c M (Ring.bk 16 p))
/-- The transfer of step `p` in flight. -/
abbrev sent (c : Dev nD) (M : Buf (Elt F) (maskM.view.loc (c : Thread nD τ))) (p : ℕ) : sProp 𝕄 := goingP c M (Ring.sl 10 p) (Ring.bk 16 p)

/-- The names the prologue's `k`-th transfer gives its cell, slot and block are those of step `t + k`, the point `t` being the first. -/
theorem lit_names (t : Fin cfg0.N) (ht : t.val = 0) (k : ℕ) (hk : k < 8) (m : ℕ) (hm : m = 256 * k) :
    (∀ hh, (cc0_scratch2.slice (Rect.unit (s := S10) ![k] S1.size hh)).squeeze S_ squeezes_S1_S_ = cellM (Ring.sl 10 (t.val + k)))
    ∧ (∀ hh hs, (bufM.slice (Rect.unit (s := S10x256x4096) ![k, 0, 0] S1x256x4096.size hh) hs).squeeze S256x4096 squeezes_S1x256x4096_S256x4096 = slotM (Ring.sl 10 (t.val + k)))
    ∧ (∀ hh hs, maskM.slice (Rect.unit (s := S4096x4096) ![m, 0] S256x4096.size hh) hs = blkM (Ring.bk 16 (t.val + k))) := by
  have es : (Ring.sl 10 (t.val + k)).val = k := by rw [ht, Nat.zero_add]; exact Nat.mod_eq_of_lt (by omega)
  have eb : (Ring.bk 16 (t.val + k)).val = k := by rw [ht, Nat.zero_add]; exact Nat.mod_eq_of_lt (by omega)
  exact ⟨fun hh => cell_eq (by rw [es]) hh, fun hh hs => slot_eq (by rw [es]) hh hs, fun hh hs => blk_eq (by rw [eb, hm]) hh hs⟩

set_option maxHeartbeats 1000000 in
/-- The body at the first point: it starts the transfers of steps 0 to 7, builds the combined operator, waits block 0, starts the transfer of
    step 8 and stores the first rows. -/
theorem run_first (c : Dev nD) (t : Fin cfg0.N) (ht : t.val = 0) (arg2 : Memref sig .tc .vmem S4x4096x64 .f32) (harg2 : arg2.IsWhole) (arg3 : Memref sig .tc .smem S4 .f32) (harg3 : arg3.IsWhole)
    (arg4 : Memref sig .tc .vmem S256x64 .f32) (harg4 : arg4.IsWhole) (arg6 : Memref sig .tc .vmem S4096x64 .bf16) (harg6 : arg6.IsWhole)
    (x0 : Vec F S4x4096x64 .f32) (x1 : Vec F S4 .f32) (M : Buf (Elt F) (maskM.view.loc (c : Thread nD τ)))
    (W : Waits sig Unit) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg6 fullShare d)
        ∗ laid c M t.val ∗ laid c M (t.val + 1) ∗ laid c M (t.val + 2) ∗ laid c M (t.val + 3) ∗ laid c M (t.val + 4) ∗ laid c M (t.val + 5) ∗ laid c M (t.val + 6) ∗ laid c M (t.val + 7) ∗ laid c M (t.val + 8) ∗ owes (c : Thread nD τ) 0 W
        ∗ (iprop(owns (c : Thread nD τ) arg2 fullShare x0 ∗ owns (c : Thread nD τ) arg3 fullShare x1 ∗ owns (c : Thread nD τ) arg4 fullShare (rowsV c M x1 (comb x0 x1) (Ring.bk 16 t.val)) ∗ owns (c : Thread nD τ) arg6 fullShare (comb x0 x1)
            ∗ laid c M t.val ∗ sent c M (t.val + 1) ∗ sent c M (t.val + 2) ∗ sent c M (t.val + 3) ∗ sent c M (t.val + 4) ∗ sent c M (t.val + 5) ∗ sent c M (t.val + 6) ∗ sent c M (t.val + 7) ∗ sent c M (t.val + 8) ∗ (∃ W', owes (c : Thread nD τ) 0 W')) -∗ K ⟨⟩))
      ⊢ wp frame (wpE (defs₀ (F := F)) Variants.none c none) Set.univ (cc0__mixed_op_body (grid0.coords t) maskM (Memref.isWhole_whole _) arg2 harg2 arg3 harg3 arg4 harg4 bufM (Memref.isWhole_whole _) arg6 harg6 cc0_scratch2) K := by
  have h8 : t.val + 8 < 16 := by omega
  have hc0 : first (grid0.coords t) := (first_iff t).2 ht
  have hc1 : k0_cond2 (grid0.coords t) = 1#1 := (even_iff t).2 ⟨h8, by omega⟩
  have hc2 : ¬k0_cond3 (grid0.coords t) = 1#1 := fun h => by have := (odd_iff t).1 h; omega
  haveI := Fact.mk hc0
  haveI := Fact.mk hc1
  haveI := Fact.mk hc2
  have L0 := lit_names t ht 0 (by omega) 0 rfl
  rw [Nat.add_zero] at L0
  have hcanonC0 := L0.1 inb_S10_S1_0
  have hcanonS0 := L0.2.1 inb_S10x256x4096_S1x256x4096_0_0_0 (fun _ => rfl)
  have hcanonB0 := L0.2.2 inb_S4096x4096_S256x4096_0_0 (fun _ => rfl)
  have L1 := lit_names t ht 1 (by omega) 256 rfl
  have hcanonC1 := L1.1 inb_S10_S1_1
  have hcanonS1 := L1.2.1 inb_S10x256x4096_S1x256x4096_1_0_0 (fun _ => rfl)
  have hcanonB1 := L1.2.2 inb_S4096x4096_S256x4096_256_0 (fun _ => rfl)
  have L2 := lit_names t ht 2 (by omega) 512 rfl
  have hcanonC2 := L2.1 inb_S10_S1_2
  have hcanonS2 := L2.2.1 inb_S10x256x4096_S1x256x4096_2_0_0 (fun _ => rfl)
  have hcanonB2 := L2.2.2 inb_S4096x4096_S256x4096_512_0 (fun _ => rfl)
  have L3 := lit_names t ht 3 (by omega) 768 rfl
  have hcanonC3 := L3.1 inb_S10_S1_3
  have hcanonS3 := L3.2.1 inb_S10x256x4096_S1x256x4096_3_0_0 (fun _ => rfl)
  have hcanonB3 := L3.2.2 inb_S4096x4096_S256x4096_768_0 (fun _ => rfl)
  have L4 := lit_names t ht 4 (by omega) 1024 rfl
  have hcanonC4 := L4.1 inb_S10_S1_4
  have hcanonS4 := L4.2.1 inb_S10x256x4096_S1x256x4096_4_0_0 (fun _ => rfl)
  have hcanonB4 := L4.2.2 inb_S4096x4096_S256x4096_1024_0 (fun _ => rfl)
  have L5 := lit_names t ht 5 (by omega) 1280 rfl
  have hcanonC5 := L5.1 inb_S10_S1_5
  have hcanonS5 := L5.2.1 inb_S10x256x4096_S1x256x4096_5_0_0 (fun _ => rfl)
  have hcanonB5 := L5.2.2 inb_S4096x4096_S256x4096_1280_0 (fun _ => rfl)
  have L6 := lit_names t ht 6 (by omega) 1536 rfl
  have hcanonC6 := L6.1 inb_S10_S1_6
  have hcanonS6 := L6.2.1 inb_S10x256x4096_S1x256x4096_6_0_0 (fun _ => rfl)
  have hcanonB6 := L6.2.2 inb_S4096x4096_S256x4096_1536_0 (fun _ => rfl)
  have L7 := lit_names t ht 7 (by omega) 1792 rfl
  have hcanonC7 := L7.1 inb_S10_S1_7
  have hcanonS7 := L7.2.1 inb_S10x256x4096_S1x256x4096_7_0_0 (fun _ => rfl)
  have hcanonB7 := L7.2.2 inb_S4096x4096_S256x4096_1792_0 (fun _ => rfl)
  simp only [cc0__mixed_op_body_eq_skeleton]; unfold cc0__mixed_op_body_skel
  simp only [k0_part3_eq_skeleton, k0_part4_eq_skeleton, k0_part1_eq_skeleton, k0_part2_eq_skeleton]
  unfold owns laid sent freeP goingP Ring.free Ring.inflight
  iintro ⟨⟨%f0, %hf0, H0⟩, ⟨%f1, %hf1, H1⟩, ⟨%d2, %f2, -, H2⟩, ⟨%d3, %f3, -, H3⟩, ⟨⟨Hc0, ⟨%fs0, Hs0⟩⟩, Hh0⟩, ⟨⟨Hc1, ⟨%fs1, Hs1⟩⟩, Hh1⟩, ⟨⟨Hc2, ⟨%fs2, Hs2⟩⟩, Hh2⟩, ⟨⟨Hc3, ⟨%fs3, Hs3⟩⟩, Hh3⟩, ⟨⟨Hc4, ⟨%fs4, Hs4⟩⟩, Hh4⟩, ⟨⟨Hc5, ⟨%fs5, Hs5⟩⟩, Hh5⟩, ⟨⟨Hc6, ⟨%fs6, Hs6⟩⟩, Hh6⟩, ⟨⟨Hc7, ⟨%fs7, Hs7⟩⟩, Hh7⟩, ⟨⟨Hc8, ⟨%fs8, Hs8⟩⟩, Hh8⟩, HW, Hk⟩
  obtain rfl := harg2.eq_unread hf0; obtain rfl := harg3.eq_unread hf1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    exact stored (wait_offs t).2.2.2 M _ hf1 (combined hf0 hf1 _) _ _ _ _
  isplitl [H3]
  · iexists _; isplitr; swap; · iexact H3
    ipureintro
    exact combined hf0 hf1 _
  isplitl [Hc0 Hs0 Hh0]
  · isplitl [Hc0 Hs0]
    · isplitl [Hc0]; · iexact Hc0
      iexists _; iexact Hs0
    iexact Hh0
  isplitl [Hc1]; · iexists _; iexact Hc1
  isplitl [Hc2]; · iexists _; iexact Hc2
  isplitl [Hc3]; · iexists _; iexact Hc3
  isplitl [Hc4]; · iexists _; iexact Hc4
  isplitl [Hc5]; · iexists _; iexact Hc5
  isplitl [Hc6]; · iexists _; iexact Hc6
  isplitl [Hc7]; · iexists _; iexact Hc7
  isplitl [Hc8]; · iexists _; iexact Hc8
  iexists _; iexact HW

end Cert.KernelIdeal.Mask

end
-- ==== Proof.RingSteps.lean ====
/-
  The ring between points: what a point takes out of it, and that what the body hands back, with the rest, is the ring of the next point.
-/
module

public import proofs.«01_k».proof.Proof.Steps

@[expose] public section

set_option maxRecDepth 16384

noncomputable section

namespace Cert.KernelIdeal.Mask

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section RingSteps
variable (c : Dev nD) (M : Buf (Elt F) (maskM.view.loc (c : Thread nD τ)))

/-- Role `j` of the ring before point `p`: the slot of step `p + j`, in flight or free. -/
abbrev role (p : ℕ) (j : Fin 10) : sProp 𝕄 := Ring.slotAt (NB := 16) 8 (cellP (F := F) c) (slotP c) (flightP c M) p j
/-- The ring's blocks over the steps. -/
abbrev homes (s : Finset (Fin 16)) : sProp 𝕄 := bigSep s (homeP c M)

/-- The blocks of a set with one more. -/
theorem homes_insert {a : Fin 16} {s : Finset (Fin 16)} (h : a ∉ s) : homes c M (insert a s) = iprop(homeP c M a ∗ homes c M s) := BI.bigSep_insert h

/-- The roles a point leaves alone: the slots of the seven steps after its own, and the slot of the step before. -/
abbrev others (p : ℕ) : sProp 𝕄 := iprop(role c M p 1 ∗ role c M p 2 ∗ role c M p 3 ∗ role c M p 4 ∗ role c M p 5 ∗ role c M p 6 ∗ role c M p 7 ∗ role c M p 9)

/-- A point's ring, role by role. -/
theorem ring_pos (p : ℕ) (hp : 0 < p) : ring c M p = iprop(homes c M (Ring.homeSet 8 p) ∗ role c M p 0 ∗ role c M p 1 ∗ role c M p 2 ∗ role c M p 3 ∗ role c M p 4
    ∗ role c M p 5 ∗ role c M p 6 ∗ role c M p 7 ∗ role c M p 8 ∗ role c M p 9) := by
  unfold ring Ring.At
  rw [if_neg (by omega), bigSep_univ_eq_bigSepL ([0, 1, 2, 3, 4, 5, 6, 7, 8, 9] : List (Fin 10)) (by decide) (by decide)]
  rfl

/-- The roles a point leaves alone are, at the next point, the roles numbered one less. -/
theorem others_next (p : ℕ) : others c M p = iprop(role c M (p + 1) 0 ∗ role c M (p + 1) 1 ∗ role c M (p + 1) 2 ∗ role c M (p + 1) 3 ∗ role c M (p + 1) 4 ∗ role c M (p + 1) 5 ∗ role c M (p + 1) 6 ∗ role c M (p + 1) 8) := by
  have e8 : role c M (p + 1) 8 = role c M p 9 := by
    rw [role, role, Ring.slotAt_of_not _ _ _ _ _ _ (by simp), Ring.slotAt_of_not _ _ _ _ _ _ (by simp)]; rfl
  rw [e8]
  unfold role
  rw [Ring.slotAt_tail_role_n 8 _ _ _ p 0 1 rfl (by decide), Ring.slotAt_tail_role_n 8 _ _ _ p 1 2 rfl (by decide), Ring.slotAt_tail_role_n 8 _ _ _ p 2 3 rfl (by decide),
    Ring.slotAt_tail_role_n 8 _ _ _ p 3 4 rfl (by decide), Ring.slotAt_tail_role_n 8 _ _ _ p 4 5 rfl (by decide), Ring.slotAt_tail_role_n 8 _ _ _ p 5 6 rfl (by decide),
    Ring.slotAt_tail_role_n 8 _ _ _ p 6 7 rfl (by decide)]

/-- The point's own step is in flight; -/
theorem role0 (p : ℕ) (h : p < 16) : role c M p 0 = sent c M p := Ring.slotAt_eq_inflight 8 _ _ _ p 0 p rfl ⟨by decide, h⟩
/-- role 8 is a free slot; -/
theorem role8 (p : ℕ) : role c M p 8 = freeP c (Ring.sl 10 (p + 8)) := Ring.slotAt_eq_free 8 _ _ _ p 8 (p + 8) (.inl rfl) (by simp)
/-- the slot just waited is the next point's last role; -/
theorem role9_next (p : ℕ) : role c M (p + 1) 9 = freeP c (Ring.sl 10 p) :=
  Ring.slotAt_eq_free 8 _ _ _ (p + 1) 9 p (.inr (by show p + 1 + 9 = p + 10; omega)) (by simp)
/-- the next point's role 7 is the transfer the point started, -/
theorem role7_next (p : ℕ) (h : p + 8 < 16) : role c M (p + 1) 7 = sent c M (p + 8) :=
  Ring.slotAt_eq_inflight 8 _ _ _ (p + 1) 7 (p + 8) (by show p + 1 + 7 = p + 8; omega) ⟨by decide, h⟩
/-- or a free slot when it started none. -/
theorem role7_next_free (p : ℕ) (h : 16 ≤ p + 8) : role c M (p + 1) 7 = freeP c (Ring.sl 10 (p + 8)) :=
  Ring.slotAt_eq_free 8 _ _ _ (p + 1) 7 (p + 8) (.inl (by show p + 1 + 7 = p + 8; omega)) (by show ¬(7 < 8 ∧ p + 1 + 7 < 16); omega)

/-- What an issuing point leaves in the ring. -/
abbrev keepI (p : ℕ) : sProp 𝕄 := iprop(homes c M ((Ring.homeSet 8 p).erase (Ring.bk 16 (p + 8))) ∗ others c M p)
/-- An issuing point takes its own transfer, a free slot and the block to send. -/
theorem take_issue (p : ℕ) (hp : 0 < p) (h : p + 8 < 16) : ring c M p ⊢ iprop(sent c M p ∗ laid c M (p + 8) ∗ keepI c M p) := by
  rw [ring_pos c M p hp, role0 c M p (by omega), role8 c M p, Ring.homeSet_out 8 p h, homes_insert c M (Ring.bkL_not_mem_erase 8 p)]
  iintro ⟨⟨Hh, Hr⟩, H0, H1, H2, H3, H4, H5, H6, H7, H8, H9⟩
  isplitl [H0]; · iexact H0
  isplitl [H8 Hh]
  · isplitl [H8]; · iexact H8
    iexact Hh
  isplitl [Hr]; · iexact Hr
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H9
/-- What it hands back makes the next point's ring. -/
theorem give_issue (p : ℕ) (h : p + 8 < 16) : iprop(laid c M p ∗ sent c M (p + 8) ∗ keepI c M p) ⊢ ring c M (p + 1) := by
  have hm := Ring.bk_not_mem_erase (NB := 16) 8 p (by omega) (by decide)
  unfold keepI
  rw [others_next, ring_pos c M (p + 1) (by omega), role7_next c M p h, role9_next c M p, Ring.homeSet_succ 8 p h, homes_insert c M hm]
  iintro ⟨⟨Hf, Hh⟩, H7, Hr, H0, H1, H2, H3, H4, H5, H6, H8⟩
  isplitl [Hh Hr]
  · isplitl [Hh]; · iexact Hh
    iexact Hr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact Hf

/-- What a quiet point leaves in the ring. -/
abbrev keepQ (p : ℕ) : sProp 𝕄 := iprop(homes c M (Ring.homeSet 8 p) ∗ role c M p 8 ∗ others c M p)
/-- A quiet point takes its own transfer only. -/
theorem take_quiet (p : ℕ) (hp : 0 < p) (h : p < 16) : ring c M p ⊢ iprop(sent c M p ∗ keepQ c M p) := by
  rw [ring_pos c M p hp, role0 c M p h]
  iintro ⟨Hr, H0, H1, H2, H3, H4, H5, H6, H7, H8, H9⟩
  isplitl [H0]; · iexact H0
  isplitl [Hr]; · iexact Hr
  isplitl [H8]; · iexact H8
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H9
/-- What it hands back makes the next point's ring. -/
theorem give_quiet (p : ℕ) (h : p < 16) (hq : 16 ≤ p + 8) : iprop(laid c M p ∗ keepQ c M p) ⊢ ring c M (p + 1) := by
  have hm := Ring.bk_not_mem_homeSet (NB := 16) 8 p h (by decide)
  unfold keepQ
  rw [others_next, ring_pos c M (p + 1) (by omega), role7_next_free c M p hq, role9_next c M p, role8 c M p, Ring.homeSet_succ_tail 8 p hq h, homes_insert c M hm]
  iintro ⟨⟨Hf, Hh⟩, Hr, H7, H0, H1, H2, H3, H4, H5, H6, H8⟩
  isplitl [Hh Hr]
  · isplitl [Hh]; · iexact Hh
    iexact Hr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact Hf

/-- What the first point leaves in the ring: the blocks from 9 on, and slot 9. -/
abbrev keepF : sProp 𝕄 := iprop(homes c M (Ring.rangeSet 16 9 16) ∗ freeP (F := F) c (Ring.sl 10 9))
/-- The first point takes nine slots and nine blocks. -/
theorem take_first (p : ℕ) (hp : p = 0) : ring c M p ⊢ iprop(laid c M p ∗ laid c M (p + 1) ∗ laid c M (p + 2) ∗ laid c M (p + 3) ∗ laid c M (p + 4) ∗ laid c M (p + 5) ∗ laid c M (p + 6) ∗ laid c M (p + 7) ∗ laid c M (p + 8) ∗ keepF c M) := by
  subst hp
  have he := Ring.bigSep_rangeSet_chain (homeP c M) 0 9 (by decide) (homes c M (Ring.rangeSet 16 9 16))
  simp only [Nat.zero_add, Nat.reduceAdd, List.range', List.foldr_cons, List.foldr_nil] at he
  have hs : bigSep Finset.univ (Ring.free (cellP (F := F) c) (slotP c)) = iprop(freeP c (Ring.sl 10 0) ∗ freeP c (Ring.sl 10 1) ∗ freeP c (Ring.sl 10 2) ∗ freeP c (Ring.sl 10 3) ∗ freeP c (Ring.sl 10 4) ∗ freeP c (Ring.sl 10 5) ∗ freeP c (Ring.sl 10 6) ∗ freeP c (Ring.sl 10 7) ∗ freeP c (Ring.sl 10 8) ∗ freeP c (Ring.sl 10 9)) :=
    (bigSep_univ_eq_bigSepL ([0, 1, 2, 3, 4, 5, 6, 7, 8, 9] : List (Fin 10)) (by decide) (by decide) _).trans rfl
  unfold ring Ring.At₀
  rw [if_pos rfl, hs, ← Ring.rangeSet_univ (NB := 16),
    Ring.bigSep_rangeSet_split (show 0 ≤ 9 by decide) (show 9 ≤ 16 by decide), he]
  simp only [Nat.zero_add]
  iintro ⟨⟨B0, B1, B2, B3, B4, B5, B6, B7, B8, Br⟩, S0, S1, S2, S3, S4, S5, S6, S7, S8, S9⟩
  isplitl [B0 S0]
  · isplitl [S0]; · iexact S0
    iexact B0
  isplitl [B1 S1]
  · isplitl [S1]; · iexact S1
    iexact B1
  isplitl [B2 S2]
  · isplitl [S2]; · iexact S2
    iexact B2
  isplitl [B3 S3]
  · isplitl [S3]; · iexact S3
    iexact B3
  isplitl [B4 S4]
  · isplitl [S4]; · iexact S4
    iexact B4
  isplitl [B5 S5]
  · isplitl [S5]; · iexact S5
    iexact B5
  isplitl [B6 S6]
  · isplitl [S6]; · iexact S6
    iexact B6
  isplitl [B7 S7]
  · isplitl [S7]; · iexact S7
    iexact B7
  isplitl [B8 S8]
  · isplitl [S8]; · iexact S8
    iexact B8
  isplitl [Br]; · iexact Br
  iexact S9
/-- What it hands back makes the ring of point 1. -/
theorem give_first (p : ℕ) (hp : p = 0) : iprop(laid c M p ∗ sent c M (p + 1) ∗ sent c M (p + 2) ∗ sent c M (p + 3) ∗ sent c M (p + 4) ∗ sent c M (p + 5) ∗ sent c M (p + 6) ∗ sent c M (p + 7) ∗ sent c M (p + 8) ∗ keepF c M) ⊢ ring c M (p + 1) := by
  subst hp
  have hh : Ring.homeSet (NB := 16) 8 (0 + 1) = insert (Ring.bk 16 0) (Ring.rangeSet 16 9 16) := by decide
  have ei (k : ℕ) (j : Fin 10) (e : 0 + 1 + j.val = 0 + k) (hk : j.val < 8 ∧ 0 + k < 16) : role c M (0 + 1) j = sent c M (0 + k) :=
    Ring.slotAt_eq_inflight 8 _ _ _ (0 + 1) j (0 + k) e hk
  have e8 : role c M (0 + 1) 8 = freeP c (Ring.sl 10 9) := Ring.slotAt_eq_free 8 _ _ _ _ 8 9 (.inl rfl) (by simp)
  rw [ring_pos c M (0 + 1) (by omega), hh, homes_insert c M (by decide), ei 1 0 rfl (by decide), ei 2 1 rfl (by decide), ei 3 2 rfl (by decide), ei 4 3 rfl (by decide), ei 5 4 rfl (by decide), ei 6 5 rfl (by decide), ei 7 6 rfl (by decide), ei 8 7 rfl (by decide), e8, role9_next]
  iintro ⟨⟨Hf, Hh⟩, H0, H1, H2, H3, H4, H5, H6, H7, Hr, H8⟩
  isplitl [Hh Hr]
  · isplitl [Hh]; · iexact Hh
    iexact Hr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact Hf

end RingSteps

end Cert.KernelIdeal.Mask

end
-- ==== Proof.Run.lean ====
/-
  The launch: the mask ring made of what the launch hands the kernel and given back at the end, the data of the pipeline (what
  the body leaves in each window at each point), the body at every point, the run, and the frame claim.
-/
module

public import proofs.«01_k».proof.Proof.RingSteps
public import Idealize.ShloMosaic.Lib.Pipeline.FrameBody

@[expose] public section

set_option maxRecDepth 16384

noncomputable section

namespace Cert.KernelIdeal.Mask

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The ring at the two ends of the launch -/

section Ends
variable (c : Dev nD) (M : Buf (Elt F) (maskM.view.loc (c : Thread nD τ)))

/-- The elements of the buffer slot `s` holds. -/
abbrev slotSet (s : Fin 10) : Finset S10x256x4096.Idx := (Rect.unit (s := S10x256x4096) ![s.val, 0, 0] S1x256x4096.size (slot_inb s)).set
/-- The elements of the mask block `b` holds. -/
abbrev blkSet (b : Fin 16) : Finset S4096x4096.Idx := (Rect.unit (s := S4096x4096) ![256 * b.val, 0] S256x4096.size (blk_inb b)).set

/-- A slot's elements, as the buffer's. -/
theorem slot_set (s : Fin 10) : (slotM s).view.set = slotSet s := by
  simp only [slotM, Memref.view_squeeze, View.set_reshape]; exact View.set_slice_whole _ _
/-- A block's elements, as the mask's. -/
theorem blk_set (b : Fin 16) : (blkM b).view.set = blkSet b := View.set_slice_whole _ _

/-- Two slots share nothing, -/
theorem slot_disjoint (s s' : Fin 10) (h : s ≠ s') : Disjoint (slotSet s) (slotSet s') :=
  Ring.lead_disjoint (s := S10x256x4096) (0 : Fin 3) 1 (fun s : Fin 10 => (![s.val, 0, 0] : Fin 3 → Nat)) S1x256x4096.size slot_inb (fun s => by simp) rfl s s' h
/-- and the slots are the whole buffer. -/
theorem slot_cover : Finset.univ.biUnion slotSet = Finset.univ :=
  Ring.lead_cover (s := S10x256x4096) (0 : Fin 3) 1 (fun s : Fin 10 => (![s.val, 0, 0] : Fin 3 → Nat)) S1x256x4096.size slot_inb (fun s => by simp)
    (fun s a ha => by fin_cases a <;> first | exact absurd rfl ha | rfl) rfl (fun a ha => by fin_cases a <;> first | exact absurd rfl ha | rfl) rfl
/-- Two blocks share nothing, -/
theorem blk_disjoint (b b' : Fin 16) (h : b ≠ b') : Disjoint (blkSet b) (blkSet b') :=
  Ring.lead_disjoint (s := S4096x4096) (0 : Fin 2) 256 (fun b : Fin 16 => (![256 * b.val, 0] : Fin 2 → Nat)) S256x4096.size blk_inb (fun b => by simp) rfl b b' h
/-- and the blocks are the whole mask. -/
theorem blk_cover : Finset.univ.biUnion blkSet = Finset.univ :=
  Ring.lead_cover (s := S4096x4096) (0 : Fin 2) 256 (fun b : Fin 16 => (![256 * b.val, 0] : Fin 2 → Nat)) S256x4096.size blk_inb (fun b => by simp)
    (fun b a ha => by fin_cases a <;> first | exact absurd rfl ha | rfl) rfl (fun a ha => by fin_cases a <;> first | exact absurd rfl ha | rfl) rfl

/-- A slot held, by its elements. -/
theorem slot_held (s : Fin 10) (f) : slotP (F := F) c s f = (((c : Thread nD τ).loc cc0_scratch0) ↦[slotSet s]{fullShare} f : sProp 𝕄) := by
  unfold slotP; rw [slot_set]; rfl
/-- A block held, by its elements. -/
theorem blk_held (b : Fin 16) : homeP c M b = (((c : Thread nD τ).loc main_arg0) ↦[blkSet b]{fullShare} M : sProp 𝕄) := by
  unfold homeP; rw [blk_set]; rfl

/-- The mask held whole is its blocks held. -/
theorem homes_whole : (((c : Thread nD τ).loc main_arg0) ↦{fullShare} M : sProp 𝕄) = homes c M Finset.univ := by
  have e : homeP c M = fun b => (((c : Thread nD τ).loc main_arg0) ↦[blkSet b]{fullShare} M : sProp 𝕄) := funext (blk_held c M)
  unfold homes; rw [e]
  exact Ring.pointsTo_blocks (ℓ := (c : Thread nD τ).loc main_arg0) blkSet blk_disjoint blk_cover M

/-- The buffer held whole, at some contents, splits into its slots, -/
theorem slots_in : iprop(∃ f : Buf (Elt F) ((c : Thread nD τ).loc cc0_scratch0), ((c : Thread nD τ).loc cc0_scratch0) ↦{fullShare} f)
    ⊢ (bigSep Finset.univ (fun s => iprop(∃ f, slotP c s f)) : sProp 𝕄) := by
  rw [bigSep_univ_eq_bigSepL ([0, 1, 2, 3, 4, 5, 6, 7, 8, 9] : List (Fin 10)) (by decide) (by decide)]
  exact Ring.slots_split_n (U := Pipeline.UD sig nD τ) (ℓ := (c : Thread nD τ).loc cc0_scratch0) (q := fullShare) slotSet slot_disjoint slot_cover
    [0, 1, 2, 3, 4, 5, 6, 7, 8, 9] (by decide) (by decide) (slotP c) (slot_held c)
/-- and its slots join back. -/
theorem slots_out : (bigSep Finset.univ (fun s => iprop(∃ f, slotP c s f)) : sProp 𝕄)
    ⊢ iprop(∃ f : Buf (Elt F) ((c : Thread nD τ).loc cc0_scratch0), ((c : Thread nD τ).loc cc0_scratch0) ↦{fullShare} f) := by
  rw [bigSep_univ_eq_bigSepL ([0, 1, 2, 3, 4, 5, 6, 7, 8, 9] : List (Fin 10)) (by decide) (by decide)]
  exact Ring.slots_join_n (U := Pipeline.UD sig nD τ) (ℓ := (c : Thread nD τ).loc cc0_scratch0) (q := fullShare) slotSet slot_disjoint slot_cover
    [0, 1, 2, 3, 4, 5, 6, 7, 8, 9] (by decide) (by decide) (slotP c) (slot_held c)

/-- The slots free are the cells at zero and the slots held. -/
theorem frees_eq : bigSep Finset.univ (Ring.free (cellP (F := F) c) (slotP c)) = iprop(bigSep Finset.univ (cellP (F := F) c) ∗ bigSep Finset.univ (fun s => iprop(∃ f, slotP c s f))) :=
  BI.bigSep_sep Finset.univ (cellP (F := F) c) (fun s => iprop(∃ f, slotP c s f))

/-- The buffer, the cells at zero and the mask make the ring before the first point. -/
theorem ring_in : iprop((∃ f : Buf (Elt F) ((c : Thread nD τ).loc cc0_scratch0), ((c : Thread nD τ).loc cc0_scratch0) ↦{fullShare} f)
    ∗ bigSep Finset.univ (cellP (F := F) c) ∗ ((c : Thread nD τ).loc main_arg0) ↦{fullShare} M) ⊢ ring c M 0 := by
  unfold ring Ring.At₀
  rw [if_pos rfl, frees_eq, homes_whole]
  iintro ⟨Hf, Hc, Hm⟩
  isplitl [Hm]; · iexact Hm
  isplitl [Hc]; · iexact Hc
  iapply (slots_in c); iexact Hf
/-- The ring after the last point gives them back. -/
theorem ring_out : ring c M 16 ⊢ iprop((∃ f : Buf (Elt F) ((c : Thread nD τ).loc cc0_scratch0), ((c : Thread nD τ).loc cc0_scratch0) ↦{fullShare} f)
    ∗ bigSep Finset.univ (cellP (F := F) c) ∗ ((c : Thread nD τ).loc main_arg0) ↦{fullShare} M) := by
  unfold ring
  rw [if_neg (by decide), Ring.At_past_eq_free _ _ _ _ _ 16 le_rfl, frees_eq, homes_whole]
  iintro ⟨Hm, Hc, Hs⟩
  isplitl [Hs]; · iapply (slots_out c); iexact Hs
  isplitl [Hc]; · iexact Hc
  iexact Hm
end Ends

/-! ## The pipeline's data -/

variable (m : (ℓ : Loc nD τ sig) → Buf (Elt F) ℓ) (ρ : Dev nD → PrngReg)

/-- The four operators, as the body finds them at point `t`; -/
def ops (c : Dev nD) (t : Fin cfg0.N) : Vec F S4x4096x64 .f32 := iblk m c 0 t
/-- the four weights likewise. -/
def wts (c : Dev nD) (t : Fin cfg0.N) : Vec F S4 .f32 := iblk m c 1 t
/-- The operators are the same at every point, -/
theorem ops_const (c : Dev nD) (t : Fin cfg0.N) : ops m c t = ops m c t0_0 := rfl
/-- and the weights. -/
theorem wts_const (c : Dev nD) (t : Fin cfg0.N) : wts m c t = wts m c t0_0 := rfl

/-- The combined operator of core `c`. -/
def combC (c : Dev nD) : Vec F S4096x64 .bf16 := comb (ops m c t0_0) (wts m c t0_0)

/-- What the body holds of its own before point `k`: the combined operator's buffer (anything before the first point, the combined
    operator after), the generator register, the ring. -/
def PhiR (c : Dev nD) (k : ℕ) : sProp 𝕄 :=
  iprop((if k = 0 then iprop(∃ d, owns (c : Thread nD τ) combM fullShare d) else owns (c : Thread nD τ) combM fullShare (combC m c))
    ∗ (∃ r, prngReg c r) ∗ ring c (V m c main_arg0) k)

/-- The pipeline's data: the arrays as launched; each input block left in place, the output block the point's rows. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => rowsV c (V m c main_arg0) (wts m c t0_0) (combC m c) (Ring.bk 16 t.val)
  Φ t := PhiR m c t.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
/-- The output block after point `t` is rows `256 t` to `256 t + 255`. -/
theorem after0_2 (c : Dev nD) (t : Fin cfg0.N) : (dats m 0 c).after 2 t = rowsV c (V m c main_arg0) (wts m c t0_0) (combC m c) (Ring.bk 16 t.val) := by dsimp only [dats]
theorem Phi_castSucc (c : Dev nD) (t : Fin cfg0.N) : (dats m 0 c).Φ t.castSucc = PhiR m c t.val := by dsimp only [dats]; simp only [Fin.val_castSucc]
theorem Phi_succ (c : Dev nD) (t : Fin cfg0.N) : (dats m 0 c).Φ t.succ = PhiR m c (t.val + 1) := by dsimp only [dats]; simp only [Fin.val_succ]

/-- An input window the body leaves in place holds its block at every point: the operators' -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; try rfl)
/-- and the weights'. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]) t d).trans
    (by unfold Dat.fetched Dat.blockOf iblk; rw [A_eq]; try rfl)

/-! ## The body at every point -/

/-- What a point starts from: its own resources and the three windows' staging buffers; -/
abbrev pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d)))
/-- and what it ends with. -/
abbrev post (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t))

/-- The start of a point, opened, the combined operator's buffer and the ring apart. -/
theorem pre_open (c : Dev nD) (t : Fin cfg0.N) : pre m c t ⊢ iprop((∃ r, prngReg c r)
    ∗ (if t.val = 0 then iprop(∃ d, owns (c : Thread nD τ) combM fullShare d) else owns (c : Thread nD τ) combM fullShare (combC m c))
    ∗ ring c (V m c main_arg0) t.val ∗ (∃ W, owes (c : Thread nD τ) 0 W)
    ∗ owns (c : Thread nD τ) (win0_0.stage (cfg0.slots t 0)) fullShare (ops m c t0_0)
    ∗ owns (c : Thread nD τ) (win0_1.stage (cfg0.slots t 1)) fullShare (wts m c t0_0)
    ∗ (∃ d, owns (c : Thread nD τ) (win0_2.stage (cfg0.slots t 2)) fullShare d)) := by
  unfold pre Dat.owesAt Pipeline.owesWithin
  simp only [Phi_castSucc, before0_0, before0_1]
  unfold PhiR
  iintro ⟨⟨Hcm, Hg, Hr⟩, ⟨%W, -, HW⟩, ⟨%d0, H0⟩, ⟨%d1, H1⟩, ⟨%d2, H2⟩⟩
  isplitl [Hg]; · iexact Hg
  isplitl [Hcm]; · iexact Hcm
  isplitl [Hr]; · iexact Hr
  isplitl [HW]; · iexists W; iexact HW
  isplitl [H0]; · iexact H0
  isplitl [H1]; · iexact H1
  iexists _; iexact H2

/-- The end of a point, closed. -/
theorem post_close (c : Dev nD) (t : Fin cfg0.N) : iprop((∃ r, prngReg c r) ∗ owns (c : Thread nD τ) combM fullShare (combC m c)
    ∗ ring c (V m c main_arg0) (t.val + 1) ∗ (∃ W, owes (c : Thread nD τ) 0 W)
    ∗ owns (c : Thread nD τ) (win0_0.stage (cfg0.slots t 0)) fullShare (ops m c t0_0)
    ∗ owns (c : Thread nD τ) (win0_1.stage (cfg0.slots t 1)) fullShare (wts m c t0_0)
    ∗ owns (c : Thread nD τ) (win0_2.stage (cfg0.slots t 2)) fullShare (rowsV c (V m c main_arg0) (wts m c t0_0) (combC m c) (Ring.bk 16 t.val))) ⊢ post m c t := by
  unfold post Dat.owesAt Pipeline.owesWithin
  simp only [Phi_succ, after0_0, after0_1, after0_2]
  unfold PhiR
  rw [if_neg (Nat.succ_ne_zero _)]
  iintro ⟨Hg, Hcm, Hr, ⟨%W, HW⟩, H0, H1, H2⟩
  isplitl [Hg Hcm Hr]
  · isplitl [Hcm]; · iexact Hcm
    isplitl [Hg]; · iexact Hg
    iexact Hr
  isplitl [HW]
  · iexists W
    isplitr
    · ipureintro; exact fun _ _ => Or.inl trivial
    iexact HW
  isplitl [H0]; · iexact H0
  isplitl [H1]; · iexact H1
  iexact H2

/-- The body at every point: from the point's start to its end. -/
theorem sound_body (c : Dev nD) (t : Fin cfg0.N) :
    pre m c t ⊢ wp frame (wpE (defs₀ (F := F)) Variants.none c none) Set.univ (bodyAt0 t) (fun _ => post m c t) := by
  have hN : t.val < 16 := lt_of_lt_of_eq t.isLt N_0
  refine (pre_open m c t).trans ?_
  by_cases ht : t.val = 0
  · rw [if_pos ht]
    iintro ⟨Hg, Hcm, Hr, ⟨%W, HW⟩, H0, H1, H2⟩
    ihave Hr := (take_first c (V m c main_arg0) t.val ht) $$ Hr
    icases Hr with ⟨L0, L1, L2, L3, L4, L5, L6, L7, L8, Hk⟩
    iapply (run_first c t ht _ _ _ _ _ _ _ _ (ops m c t0_0) (wts m c t0_0) (V m c main_arg0) W _)
    isplitl [H0]; · iexact H0
    isplitl [H1]; · iexact H1
    isplitl [H2]; · iexact H2
    isplitl [Hcm]; · iexact Hcm
    isplitl [L0]; · iexact L0
    isplitl [L1]; · iexact L1
    isplitl [L2]; · iexact L2
    isplitl [L3]; · iexact L3
    isplitl [L4]; · iexact L4
    isplitl [L5]; · iexact L5
    isplitl [L6]; · iexact L6
    isplitl [L7]; · iexact L7
    isplitl [L8]; · iexact L8
    isplitl [HW]; · iexact HW
    iintro ⟨H0, H1, H2, Hcm, L0, L1, L2, L3, L4, L5, L6, L7, L8, HW⟩
    iapply (post_close m c t)
    isplitl [Hg]; · iexact Hg
    isplitl [Hcm]; · iexact Hcm
    isplitl [L0 L1 L2 L3 L4 L5 L6 L7 L8 Hk]
    · iapply (give_first c (V m c main_arg0) t.val ht)
      isplitl [L0]; · iexact L0
      isplitl [L1]; · iexact L1
      isplitl [L2]; · iexact L2
      isplitl [L3]; · iexact L3
      isplitl [L4]; · iexact L4
      isplitl [L5]; · iexact L5
      isplitl [L6]; · iexact L6
      isplitl [L7]; · iexact L7
      isplitl [L8]; · iexact L8
      iexact Hk
    isplitl [HW]; · iexact HW
    isplitl [H0]; · iexact H0
    isplitl [H1]; · iexact H1
    iexact H2
  have hc0 : ¬first (grid0.coords t) := fun h => ht ((first_iff t).1 h)
  rw [if_neg ht]
  by_cases h8 : t.val + 8 < 16
  · have hc : (k0_cond2 (grid0.coords t) = 1#1 ∧ ¬k0_cond3 (grid0.coords t) = 1#1) ∨ (¬k0_cond2 (grid0.coords t) = 1#1 ∧ k0_cond3 (grid0.coords t) = 1#1) := by
      rw [even_iff, odd_iff]; omega
    iintro ⟨Hg, Hcm, Hr, ⟨%W, HW⟩, H0, H1, H2⟩
    ihave Hr := (take_issue c (V m c main_arg0) t.val (by omega) h8) $$ Hr
    icases Hr with ⟨Ht, ⟨Hf, Hh⟩, Hk⟩
    iapply (run_issue c t _ _ _ _ _ _ _ _ hc0 h8 hc (ops m c t0_0) (wts m c t0_0) (combC m c) (V m c main_arg0) W _)
    isplitl [H0]; · iexact H0
    isplitl [H1]; · iexact H1
    isplitl [H2]; · iexact H2
    isplitl [Hcm]; · iexact Hcm
    isplitl [Ht]; · iexact Ht
    isplitl [Hf]; · iexact Hf
    isplitl [Hh]; · iexact Hh
    isplitl [HW]; · iexact HW
    iintro ⟨H0, H1, H2, Hcm, Hf, Hh, Ht, HW⟩
    iapply (post_close m c t)
    isplitl [Hg]; · iexact Hg
    isplitl [Hcm]; · iexact Hcm
    isplitl [Hf Hh Ht Hk]
    · iapply (give_issue c (V m c main_arg0) t.val h8)
      isplitl [Hf Hh]
      · isplitl [Hf]; · iexact Hf
        iexact Hh
      isplitl [Ht]; · iexact Ht
      iexact Hk
    isplitl [HW]; · iexact HW
    isplitl [H0]; · iexact H0
    isplitl [H1]; · iexact H1
    iexact H2
  · have hc1 : ¬k0_cond2 (grid0.coords t) = 1#1 := fun h => h8 ((even_iff t).1 h).1
    have hc2 : ¬k0_cond3 (grid0.coords t) = 1#1 := fun h => h8 ((odd_iff t).1 h).1
    iintro ⟨Hg, Hcm, Hr, ⟨%W, HW⟩, H0, H1, H2⟩
    ihave Hr := (take_quiet c (V m c main_arg0) t.val (by omega) hN) $$ Hr
    icases Hr with ⟨Ht, Hk⟩
    iapply (run_quiet c t _ _ _ _ _ _ _ _ hc0 hc1 hc2 (ops m c t0_0) (wts m c t0_0) (combC m c) (V m c main_arg0) W _)
    isplitl [H0]; · iexact H0
    isplitl [H1]; · iexact H1
    isplitl [H2]; · iexact H2
    isplitl [Hcm]; · iexact Hcm
    isplitl [Ht]; · iexact Ht
    isplitl [HW]; · iexact HW
    iintro ⟨H0, H1, H2, Hcm, Hf, Hh, HW⟩
    iapply (post_close m c t)
    isplitl [Hg]; · iexact Hg
    isplitl [Hcm]; · iexact Hcm
    isplitl [Hf Hh Hk]
    · iapply (give_quiet c (V m c main_arg0) t.val hN (by omega))
      isplitl [Hf Hh]
      · isplitl [Hf]; · iexact Hf
        iexact Hh
      iexact Hk
    isplitl [HW]; · iexact HW
    isplitl [H0]; · iexact H0
    isplitl [H1]; · iexact H1
    iexact H2

/-- The kernel's body table at the pipeline's call is the body at the point. -/
theorem defs₀_row (t : Fin cfg0.N) : defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The ten cells are no window's semaphores. -/
theorem own_cells : Pipeline.OwnSemFacts spec0 cellL := by decide
/-- The mask is no window's array. -/
theorem mask_rest : ({main_arg0} : Finset (Ref sig .tc)) ⊆ Pipeline.restRefs sig spec0 := by decide

/-- What the launch hands the kernel beside the windows: the two buffers, the generator register, the cells at zero, the mask. -/
theorem handed (c : Dev nD) : (Pipeline.ΦD cellL spec0 {main_arg0} (V m) c : sProp 𝕄)
    = iprop(iprop((∃ f : Buf (Elt F) ((c : Thread nD τ).loc cc0_scratch0), ((c : Thread nD τ).loc cc0_scratch0) ↦{fullShare} f) ∗ (∃ d, owns (c : Thread nD τ) combM fullShare d))
      ∗ (∃ r, prngReg c r) ∗ bigSep Finset.univ (cellP (F := F) c) ∗ ((c : Thread nD τ).loc main_arg0) ↦{fullShare} V m c main_arg0) := by
  have hm : (bigSep ({main_arg0} : Finset (Ref sig .tc)) (fun b => ((c : Thread nD τ).loc b) ↦{fullShare} V m c b) : sProp 𝕄)
      = ((c : Thread nD τ).loc main_arg0) ↦{fullShare} V m c main_arg0 := by
    rw [BI.bigSep_eq_bigSepL_of_eq [main_arg0] (by decide) (by decide)]; rfl
  rw [Pipeline.ΦD_eq, scopedRest0_eq, hm]
  simp only [combM, owns_whole]
  rfl

/-- What is handed is what the first point starts from; -/
theorem handed_in (c : Dev nD) : Pipeline.ΦD cellL spec0 {main_arg0} (V m) c ⊢ (dats m 0 c).Φ 0 := by
  rw [handed, show (dats m 0 c).Φ 0 = PhiR m c 0 from rfl]
  unfold PhiR
  rw [if_pos rfl]
  iintro ⟨⟨Hb, Hcm⟩, Hg, Hc, Hm⟩
  isplitl [Hcm]; · iexact Hcm
  isplitl [Hg]; · iexact Hg
  iapply (ring_in c (V m c main_arg0))
  isplitl [Hb]; · iexact Hb
  isplitl [Hc]; · iexact Hc
  iexact Hm
/-- and what the last point ends with gives it back. -/
theorem handed_out (c : Dev nD) : (dats m 0 c).Φ (Fin.last cfg0.N) ⊢ Pipeline.ΦD cellL spec0 {main_arg0} (V m) c := by
  rw [handed, show (dats m 0 c).Φ (Fin.last cfg0.N) = PhiR m c grid0.N from rfl, N_0]
  unfold PhiR
  rw [if_neg (by decide)]
  iintro ⟨Hcm, Hg, Hr⟩
  ihave Hr := (ring_out c (V m c main_arg0)) $$ Hr
  icases Hr with ⟨Hb, Hc, Hm⟩
  isplitl [Hb Hcm]
  · isplitl [Hb]; · iexact Hb
    iexists _; iexact Hcm
  isplitl [Hg]; · iexact Hg
  isplitl [Hc]; · iexact Hc
  iexact Hm

/-- @main is the region alone. -/
theorem main_region : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

set_option backward.isDefEq.respectTransparency.types false in
/-- The run: every schedule ends with the windows' arrays as the pipeline's data says, every other buffer as launched, and every
    semaphore at zero. -/
theorem run_data : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 cellL defs₀ Variants.none own_cells {main_arg0} mask_rest m ρ main
    (hbody := fun c => (body_obligation m c).loose) (hshare := fun c => (dats m 0 c).share_full fun _ => rfl) (howed := fun _ _ => rfl) (V := V m)
    (hmain := main_region m) (hA := A_eq m) (hin := handed_in m) (hout := handed_out m)

/-- The run, read at the program's arrays: the output holds what the pipeline's data says, the arguments are as launched, every
    semaphore is at zero. -/
theorem run_main : θ_run defs (onTc (τ := τ) (main (F := F))) ⟨m, fun _ => 0, ρ⟩ (fun r =>
    (∀ c : Dev nD, r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨(h.1 c).1 2, (h.1 c).2 main_arg0 (Pipeline.mem_restRefs_of main_arg0 (by decide) (by decide)),
    ((h.1 c).1 0).trans ((dats m 0 c).arrAt_in 0 rfl _), ((h.1 c).1 1).trans ((dats m 0 c).arrAt_in 1 rfl _)⟩, h.2⟩) (run_data m ρ)

end Cert.KernelIdeal.Mask

end
-- ==== Proof.Algebra.lean ====
/-
  The identity of extended reals behind the kernel: combining the operators by their positive weights and multiplying once is
  multiplying each and combining the products, as long as what is multiplied is finite.
-/
module

public import Mathlib.Data.EReal.Operations
public import Mathlib.Algebra.BigOperators.Fin
public import Mathlib.Algebra.BigOperators.Ring.Finset

@[expose] public section

namespace Cert.KernelIdeal.Mask

open Finset

/-- A sum of reals, as extended reals. -/
theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A weight's positive part, which multiplies its operator. -/
noncomputable def pos (w : EReal) : EReal := if 0 < w then w else 0
/-- The rest of a weight, which is added as it is. -/
noncomputable def rest (w : EReal) : EReal := if 0 < w then 0 else w

/-- The positive part of a weight that is not `+∞` is a real. -/
theorem pos_real {w : EReal} (h : w < ⊤) : ∃ p : ℝ, pos w = p := by
  unfold pos
  split
  · next h0 => exact ⟨w.toReal, (EReal.coe_toReal h.ne (ne_bot_of_gt h0)).symm⟩
  · exact ⟨0, rfl⟩

/-- What a weight does to a product: multiplies it if positive, else replaces it. -/
theorem gate (w : EReal) (x : ℝ) : (if 0 < w then w * (x : EReal) else w) = pos w * (x : EReal) + rest w := by
  unfold pos rest
  split
  · rw [add_zero]
  · rw [zero_mul, zero_add]

/-- One row of the mask against the combined operator, the rest of the weights added, is the sum over the operators of the row
    against each, gated by its weight. -/
theorem combine {n : ℕ} (a : Fin n → EReal) (g : Fin 4 → Fin n → EReal) (w : Fin 4 → EReal)
    (ha : ∀ x, ∃ r : ℝ, a x = r) (hg : ∀ k x, ∃ r : ℝ, g k x = r) (hw : ∀ k, w k < ⊤) :
    ∑ x, a x * (((pos (w 0) * g 0 x + pos (w 1) * g 1 x) + pos (w 2) * g 2 x) + pos (w 3) * g 3 x) + (((rest (w 0) + rest (w 1)) + rest (w 2)) + rest (w 3))
      = ∑ k, if 0 < w k then w k * ∑ x, g k x * a x else w k := by
  choose a' ha using ha
  choose g' hg using hg
  choose p hp using fun k => pos_real (hw k)
  have hs (k : Fin 4) : ∑ x, g k x * a x = ((∑ x, g' k x * a' x : ℝ) : EReal) := by
    rw [coe_sum_real]; exact sum_congr rfl fun x _ => by rw [ha, hg, EReal.coe_mul]
  have hl : ∑ x, a x * (((pos (w 0) * g 0 x + pos (w 1) * g 1 x) + pos (w 2) * g 2 x) + pos (w 3) * g 3 x)
      = ((∑ k, p k * ∑ x, g' k x * a' x : ℝ) : EReal) := by
    simp only [ha, hg, hp, ← EReal.coe_mul, ← EReal.coe_add, ← coe_sum_real]
    congr 1
    simp only [Fin.sum_univ_four, mul_sum, ← sum_add_distrib]
    exact sum_congr rfl fun x _ => by ring
  simp only [hs, gate, sum_add_distrib, hl]
  simp only [hp, ← EReal.coe_mul, ← coe_sum_real]
  congr 1
  simp only [Fin.sum_univ_four]

end Cert.KernelIdeal.Mask
-- ==== Proof.Value.lean ====
/-
  The value: what the kernel's result array holds after the run, element by element, is the reference's result.
-/
module

public import proofs.«01_k».proof.Proof.Run
public import proofs.«01_k».proof.Proof.Algebra
public import proofs.«01_k».proof.Proof.Gen.ReferenceIdeal
public import proofs.«01_k».proof.Proof.Gen.Pre_finite
public import Idealize.ShloMosaic.Lib.Pipeline.ValueKit
public import Idealize.ShloMosaic.Lib.ReduceAll

@[expose] public section

set_option maxRecDepth 16384

noncomputable section

namespace Cert.KernelIdeal.Mask

open Cert.KernelIdeal.Gen
open Idealize.ShloMosaic Idealize.ShloMosaic.TcCoe
open Idealize.ShloMosaic.Pipeline (Dat)

/-! ## The precondition -/

/-- The precondition's bound is `+∞`. -/
theorem bound_top : Ideal.ofBits .f32 0x7F800000#32 = ⊤ := by simp [Ideal.ofBits, Ideal.ieee]

/-- An extended real whose absolute value is below `+∞` is a real. -/
theorem real_of_abs {x : EReal} (h : max x (-x) < ⊤) : ∃ r : ℝ, x = r := by
  refine ⟨x.toReal, (EReal.coe_toReal (lt_of_le_of_lt (le_max_left _ _) h).ne fun hb => ?_).symm⟩
  rw [hb] at h; simp at h

/-- A scalar's shape has one index. -/
instance scalarIdx : Subsingleton Cert.Pre_finite.S_.Idx := ⟨fun a b => funext fun i => i.elim0⟩

/-- Two bits whose conjunction is set are set. -/
theorem both {p q : BitVec 1} (h : IntOp.andi p q = 1#1) : p = 1#1 ∧ q = 1#1 := by
  revert p q; decide

/-- A bit that tests a proposition, set. -/
theorem of_bit {p : Prop} [Decidable p] (h : BitVec.ofBool (decide p) = 1#1) : p := by
  by_contra hp
  rw [decide_eq_false hp] at h
  exact absurd h (by decide)

section Pre
variable {M : FVec Ideal S4096x4096 .f32} {H : FVec Ideal S4x4096x64 .f32} {w : FVec Ideal S4 .f32}

/-- Under the precondition the mask and the operators are real, and no weight is `+∞`. -/
theorem finite_of_pre (h : Cert.Pre_finite.fn (F := Ideal) M H w = fun _ => 1#1) :
    (∀ i, ∃ r : ℝ, (M i : EReal) = r) ∧ (∀ i, ∃ r : ℝ, (H i : EReal) = r) ∧ ∀ i, (w i : EReal) < ⊤ := by
  have h0 := congrFun h (fun a => a.elim0)
  unfold Cert.Pre_finite.fn at h0
  obtain ⟨h01, hw⟩ := both h0
  obtain ⟨hM, hH⟩ := both h01
  refine ⟨fun i => ?_, fun i => ?_, fun i => ?_⟩
  · have e := Host.reduce_andi_all _ _ _ _ _ hM i
    pointwise at e
    rw [bound_top] at e
    exact real_of_abs (of_bit e)
  · have e := Host.reduce_andi_all _ _ _ _ _ hH i
    pointwise at e
    rw [bound_top] at e
    exact real_of_abs (of_bit e)
  · have e := Host.reduce_andi_all _ _ _ _ _ hw i
    pointwise at e
    rw [bound_top] at e
    exact of_bit e
end Pre

/-! ## The two sides at an index -/

/-- The reference's result, as its operations compose it. -/
abbrev REF (M : FVec Ideal S4096x4096 .f32) (H : FVec Ideal S4x4096x64 .f32) (w : FVec Ideal S4 .f32) : FVec Ideal S4096x64 .f32 :=
  Host.reduceAdd (select
      (broadcastInDim Cert.ReferenceIdeal.S4x4096x64 ![0, 1, 2] Cert.ReferenceIdeal.Gen.bcast_S4x1x1_S4x4096x64_0_1_2
        (cmpf .ogt (broadcastInDim Cert.ReferenceIdeal.S4x1x1 ![0] Cert.ReferenceIdeal.Gen.bcast_S4_S4x1x1_0 w)
          (broadcastInDim Cert.ReferenceIdeal.S4x1x1 ![] Cert.ReferenceIdeal.Gen.bcast_S_S4x1x1 (constant Cert.ReferenceIdeal.S_ .f32 0x00000000#32))))
      (mulf (broadcastInDim Cert.ReferenceIdeal.S4x4096x64 ![0, 1, 2] Cert.ReferenceIdeal.Gen.bcast_S4x1x1_S4x4096x64_0_1_2
          (broadcastInDim Cert.ReferenceIdeal.S4x1x1 ![0] Cert.ReferenceIdeal.Gen.bcast_S4_S4x1x1_0 w))
        (transpose Cert.ReferenceIdeal.S4x4096x64 [0, 2, 1]
          (Host.dotGeneral Cert.ReferenceIdeal.dot_S4x4096x64_S4096x4096_S4x64x4096_1_1_02_0_n_n none H M) Cert.ReferenceIdeal.Gen.transposes_S4x64x4096_S4x4096x64_0_2_1))
      (broadcastInDim Cert.ReferenceIdeal.S4x4096x64 ![0, 1, 2] Cert.ReferenceIdeal.Gen.bcast_S4x1x1_S4x4096x64_0_1_2
        (broadcastInDim Cert.ReferenceIdeal.S4x1x1 ![0] Cert.ReferenceIdeal.Gen.bcast_S4_S4x1x1_0 w)))
    (constant Cert.ReferenceIdeal.S_ .f32 0x00000000#32) Cert.ReferenceIdeal.Gen.reducesTo_S4x4096x64_S4096x64_d0 Cert.ReferenceIdeal.Gen.h_S_

/-- The reference at row `r`, column `d`: each operator's product gated by its weight, summed. -/
theorem ref_at (M : FVec Ideal S4096x4096 .f32) (H : FVec Ideal S4x4096x64 .f32) (w : FVec Ideal S4 .f32) (r : Fin 4096) (d : Fin 64) :
    REF M H w (ix2 r d) = ∑ k : Fin 4, if (0 : EReal) < w (ix1 k) then w (ix1 k) * ∑ x : Fin 4096, H (ix3 k x d) * M (ix2 r x) else w (ix1 k) := by
  pointwise [REF]

/-- The combined operator at row `x`, column `d`: the operators by the weights' positive parts, summed. -/
theorem comb_at (H : FVec Ideal S4x4096x64 .f32) (w : FVec Ideal S4 .f32) (x : Fin 4096) (d : Fin 64) :
    comb (F := Ideal) H w (ix2 x d) = ((pos (w (ix1 0)) * H (ix3 0 x d) + pos (w (ix1 1)) * H (ix3 1 x d)) + pos (w (ix1 2)) * H (ix3 2 x d)) + pos (w (ix1 3)) * H (ix3 3 x d) := by
  pointwise [comb, k0_pay2, k0_pay3, k0_pay4, opAt, wAt]
  rfl

/-- The bias: the weights' other parts, summed. -/
theorem bias_at (w : FVec Ideal S4 .f32) : k0_pay5 (F := Ideal) (wAt w 0) (wAt w 1) (wAt w 2) (wAt w 3)
    = ((rest (w (ix1 0)) + rest (w (ix1 1))) + rest (w (ix1 2))) + rest (w (ix1 3)) := by
  pointwise [k0_pay5, wAt]
  rfl

/-- Block `b` of the mask at row `r` is the mask at row `256 b + r`. -/
theorem blk_at (c : Dev nD) (W : Buf (Elt Ideal) (maskM.view.loc (c : Thread nD τ))) (b : Fin 16) (r : Fin 256) (x : Fin 4096) :
    (blkM b).view.read (Elt Ideal) W (ix2 r x) = (W : S4096x4096.Idx → EReal) (ix2 (⟨256 * b.val + r.val, by omega⟩ : Fin 4096) x) := by
  show (W : S4096x4096.Idx → EReal) _ = _
  congr 1
  funext a
  apply Fin.ext
  fin_cases a
  · show 256 * b.val + 1 * r.val = 256 * b.val + r.val
    omega
  · show 0 + 1 * x.val = x.val
    omega

/-- The rows a point stores, at row `r`, column `d` of the block: the mask's row against the combined operator, and the bias. -/
theorem rows_at (c : Dev nD) (M : FVec Ideal S4096x4096 .f32) (w : FVec Ideal S4 .f32) (h : FVec Ideal S4096x64 .bf16) (b : Fin 16) (r : Fin 256) (d : Fin 64) :
    rowsV (F := Ideal) c M w h b (ix2 r d) = ∑ x : Fin 4096, M (ix2 (⟨256 * b.val + r.val, by omega⟩ : Fin 4096) x) * h (ix2 x d)
      + k0_pay5 (F := Ideal) (wAt w 0) (wAt w 1) (wAt w 2) (wAt w 3) := by
  pointwise [rowsV, k0_pay1, blkV]
  exact congrArg (· + _) (Finset.sum_congr rfl fun x _ => congrArg (· * _) (blk_at c M b r x))

/-- The rows a point stores are the reference's. -/
theorem rows_ref (c : Dev nD) (M : FVec Ideal S4096x4096 .f32) (H : FVec Ideal S4x4096x64 .f32) (w : FVec Ideal S4 .f32)
    (h : Cert.Pre_finite.fn (F := Ideal) M H w = fun _ => 1#1) (b : Fin 16) (r : Fin 256) (d : Fin 64) :
    rowsV (F := Ideal) c M w (comb H w) b (ix2 r d) = REF M H w (ix2 (⟨256 * b.val + r.val, by omega⟩ : Fin 4096) d) := by
  obtain ⟨hM, hH, hw⟩ := finite_of_pre h
  rw [rows_at, bias_at, ref_at]
  simp only [comb_at]
  exact combine (fun x => M (ix2 _ x)) (fun k x => H (ix3 k x d)) (fun k => w (ix1 k)) (fun x => hM _) (fun k x => hH _) fun k => hw _

/-! ## The result array -/

variable (m : (ℓ : Loc nD τ sig) → Buf (Elt Ideal) ℓ)

/-- Where the windows' blocks lie: the inputs' at the start, the output's at the point's own number. -/
theorem idx : ∀ t : Fin cfg0.N, win0_0.index t = ![0, 0, 0] ∧ win0_1.index t = ![0] ∧ win0_2.index t = ![t.val, 0] :=
  (by decide +kernel : ∀ t : Fin grid0.N, _)

/-- The operators' block is the operators; -/
theorem ops_eq (c : Dev nD) (t : Fin cfg0.N) : ops m c t = m ((c : Thread nD τ).loc main_arg1) := by
  unfold ops; blk_ext! [iblk, V, idx t]
/-- the weights' block is the weights. -/
theorem wts_eq (c : Dev nD) (t : Fin cfg0.N) : wts m c t = m ((c : Thread nD τ).loc main_arg2) := by
  unfold wts; blk_ext! [iblk, V, idx t]

/-- Element `y` of the output block of point `t` sits in the result at row `256 t + y₀`, column `y₁`. -/
theorem out_place (t : Fin cfg0.N) (r : Fin 256) (d : Fin 64) :
    (win0_2.blk t).view.emb (ix2 r d) = ix2 (⟨256 * (Ring.bk 16 t.val).val + r.val, by have := (Ring.bk 16 t.val).isLt; omega⟩ : Fin 4096) d := by
  have hb : (Ring.bk 16 t.val).val = t.val := Ring.bk_val (lt_of_lt_of_eq t.isLt N_0)
  blk_ext [idx t]

/-- The result array after the run is the reference's result. -/
theorem result (c : Dev nD) (h : Cert.Pre_finite.fn (F := Ideal) (m ((c : Thread nD τ).loc main_arg0)) (m ((c : Thread nD τ).loc main_arg1)) (m ((c : Thread nD τ).loc main_arg2)) = fun _ => 1#1) :
    (dats m 0 c).arrAt 2 cfg0.N = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  unfold combC
  rw [ops_eq, wts_eq]
  have key (y : S256x64.Idx) : rowsV (F := Ideal) c (V m c main_arg0) (m ((c : Thread nD τ).loc main_arg2)) (comb (m ((c : Thread nD τ).loc main_arg1)) (m ((c : Thread nD τ).loc main_arg2))) (Ring.bk 16 t.val) y
      = REF (m ((c : Thread nD τ).loc main_arg0)) (m ((c : Thread nD τ).loc main_arg1)) (m ((c : Thread nD τ).loc main_arg2)) ((win0_2.blk t).view.emb y) := by
    obtain ⟨r, d, rfl⟩ : ∃ (r : Fin 256) (d : Fin 64), y = ix2 r d := ⟨y 0, y 1, by funext a; fin_cases a <;> rfl⟩
    exact (rows_ref c _ _ _ h _ r d).trans (congrArg (REF _ _ _) (out_place t r d)).symm
  exact key y

end Cert.KernelIdeal.Mask

end
-- ==== Proof.lean ====
/- The claims, proved: the kernel's run gives both of its frames and, with the value of its result, the algebraic claim;
   the reference's run is the generated one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

section
open Idealize.ShloMosaic.TcCoe

/-- The kernel's text, over any float values, runs from every memory, its arguments end unchanged and every semaphore at zero. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).2, h.2⟩) (Cert.KernelIdeal.Mask.run_main m ρ)
end

section
local instance factsKernel : Cert.Kernel.Facts := Cert.Kernel.Gen.facts
local instance factsIdeal : Cert.KernelIdeal.Facts := Cert.KernelIdeal.Gen.facts

/-- The kernel's body and its idealization's are one text: at each label the two are the same program. -/
theorem bodies_same {F : FTy → Type} [FloatOps F] : Cert.Kernel.defs₀ (F := F) = Cert.KernelIdeal.defs₀ (F := F) :=
  congrArg (Defs.onTc (nD := Cert.Kernel.nD) (τ := Cert.Kernel.τ) (sig := Cert.Kernel.sig) (Val := Elt F) (Λ := Cert.Kernel.Λ₀))
    (funext fun ℓ => funext fun a => match ℓ, a with | 0, (_, _) => rfl)

/-- So are the tables their pipelines add to. -/
theorem tables_same {F : FTy → Type} [FloatOps F] : Cert.Kernel.defs (F := F) = Cert.KernelIdeal.defs (F := F) :=
  congrArg (Pipeline.defs Cert.Kernel.pcfgs) bodies_same
end

set_option maxHeartbeats 1000000 in
/-- The kernel at bits runs from every memory, its arguments end unchanged and every semaphore at zero: its text is its
    idealization's, read at bits. -/
theorem frame_kernel : Cert.quiescent_Kernel := fun m ρ _ => by
  rw [tables_same]
  exact frame_any (F := Bits) m ρ

/-- The idealization of the kernel runs from every memory, its arguments end unchanged and every semaphore at zero. -/
theorem frame_ideal : Cert.quiescent_KernelIdeal := fun m ρ _ => frame_any (F := Ideal) m ρ

/-- The reference runs from every memory, its arguments end unchanged and every semaphore at zero: it has none. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- From finite arguments the kernel, over the extended reals, ends with the reference's result. -/
theorem equal : Cert.algebraic_KernelIdeal_ReferenceIdeal_pre_finite := fun m ρ m' ρ' hpre hargs =>
  ⟨fun c => Cert.KernelIdeal.Mask.REF (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run Cert.KernelIdeal.defs _ _).mono (fun _ h c => ⟨(h.1 c).1.trans (Cert.KernelIdeal.Mask.result m c (hpre c)), (h.1 c).2⟩)
      (Cert.KernelIdeal.Mask.run_main (F := Ideal) m ρ),
    (θ_run Cert.ReferenceIdeal.defs _ _).mono (fun _ h c => ⟨(h c).1.trans (by rw [(hargs c).1, (hargs c).2.1, (hargs c).2.2]), (h c).2⟩)
      (Cert.ReferenceIdeal.Value.run (F := Ideal) m' ρ')⟩

/-- Everything claimed. -/
theorem claim : Cert.Claim := ⟨Cert.Kernel.Gen.facts, Cert.KernelIdeal.Gen.facts, Cert.ReferenceIdeal.Gen.facts, Cert.Pre_finite.Gen.facts,
  frame_kernel, frame_ideal, fun m ρ _ => frame_ideal m ρ trivial, frame_reference, fun m ρ _ => frame_reference m ρ trivial, trivial, equal⟩

end Cert.Proof

end
